-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x1x1536 : Shape := ⟨3, ![256, 1, 1536]⟩
abbrev S24576x1536 : Shape := ⟨2, ![24576, 1536]⟩
abbrev S192x12 : Shape := ⟨2, ![192, 12]⟩
abbrev S_ : Shape := ⟨0, ![]⟩

class Facts : Prop where
  bcast_S_S256x1x1536 : S_.BroadcastsInDim S256x1x1536 (![] : Fin 0 → Fin S256x1x1536.rank)
  reducesTo_S256x1x1536_S_d0_1_2 : S256x1x1536.ReducesTo [0, 1, 2] S_
  h_S_ : 0 < S_.numel

variable [Facts]

def fn {F : FTy → Type} [FloatOps F] (main_arg0 : FVec F S256x1x1536 .bf16) (main_arg1 : FVec F S24576x1536 .fp8e4m3) (main_arg2 : FVec F S192x12 .f32) : IVec S_ 1 :=
  let main_v0 : FVec F S256x1x1536 .bf16 := Host.absf main_arg0
  let main_cst : FVec F S_ .bf16 := constant S_ .bf16 0x7F7F#16
  let main_v1 : FVec F S256x1x1536 .bf16 := broadcastInDim S256x1x1536 ![] bcast_S_S256x1x1536 main_cst
  let main_v2 : IVec S256x1x1536 1 := cmpf .ole main_v0 main_v1
  let main_c : IVec S_ 1 := constantI S_ 1 1#1
  let main_v3 : IVec S_ 1 := (fun x v => Host.reduce IntOp.andi x v reducesTo_S256x1x1536_S_d0_1_2 h_S_) main_v2 main_c
  main_v3
-- ==== Kernel.lean ====
abbrev S256x1x1536 : Shape := ⟨3, ![256, 1, 1536]⟩
abbrev S24576x1536 : Shape := ⟨2, ![24576, 1536]⟩
abbrev S192x12 : Shape := ⟨2, ![192, 12]⟩
abbrev S12x192 : Shape := ⟨2, ![12, 192]⟩
abbrev S256x1536 : Shape := ⟨2, ![256, 1536]⟩
abbrev S256x24576 : Shape := ⟨2, ![256, 24576]⟩
abbrev S12x1x256 : Shape := ⟨3, ![12, 1, 256]⟩
abbrev S2048x1536 : Shape := ⟨2, ![2048, 1536]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S12x256 : Shape := ⟨2, ![12, 256]⟩
abbrev S1x1 : Shape := ⟨2, ![1, 1]⟩
abbrev S128x128 : Shape := ⟨2, ![128, 128]⟩
abbrev S128x1536 : Shape := ⟨2, ![128, 1536]⟩
abbrev S256x256 : Shape := ⟨2, ![256, 256]⟩
abbrev S256x1x24576 : Shape := ⟨3, ![256, 1, 24576]⟩
abbrev S256x1x12 : Shape := ⟨3, ![256, 1, 12]⟩

abbrev nBuf : Space → Nat
  | .hbm => 11
  | .vmem => 8
  | .smem => 1
  | _ => 0

abbrev bufTy : (tb : Table) → Fin (tcTables nBuf tb) → BufTy
  | .hbm, ⟨0, _⟩ => ⟨S256x1x1536, .bf16⟩
  | .hbm, ⟨1, _⟩ => ⟨S24576x1536, .fp8e4m3⟩
  | .hbm, ⟨2, _⟩ => ⟨S192x12, .f32⟩
  | .hbm, ⟨3, _⟩ => ⟨S12x192, .f32⟩
  | .hbm, ⟨4, _⟩ => ⟨S256x1536, .bf16⟩
  | .hbm, ⟨5, _⟩ => ⟨S256x24576, .bf16⟩
  | .hbm, ⟨6, _⟩ => ⟨S256x1536, .fp8e4m3⟩
  | .hbm, ⟨7, _⟩ => ⟨S12x1x256, .f32⟩
  | .hbm, ⟨8, _⟩ => ⟨S256x1x24576, .bf16⟩
  | .hbm, ⟨9, _⟩ => ⟨S256x1x1536, .fp8e4m3⟩
  | .hbm, ⟨10, _⟩ => ⟨S256x1x12, .f32⟩
  | .local _ .vmem, ⟨0, _⟩ => ⟨S256x1536, .bf16⟩
  | .local _ .vmem, ⟨1, _⟩ => ⟨S2048x1536, .fp8e4m3⟩
  | .local _ .vmem, ⟨2, _⟩ => ⟨S2048x1536, .fp8e4m3⟩
  | .local _ .vmem, ⟨3, _⟩ => ⟨S256x2048, .bf16⟩
  | .local _ .vmem, ⟨4, _⟩ => ⟨S256x2048, .bf16⟩
  | .local _ .vmem, ⟨5, _⟩ => ⟨S256x1536, .fp8e4m3⟩
  | .local _ .vmem, ⟨6, _⟩ => ⟨S12x1x256, .f32⟩
  | .local _ .vmem, ⟨7, _⟩ => ⟨S256x1536, .bf16⟩
  | .local _ .smem, ⟨0, _⟩ => ⟨S12x192, .f32⟩
  | _, _ => ⟨S256x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![12], ![false]⟩

def k0_off1 (i : grid0.Coords) (c0_i32_2 : BitVec 32) : Fin 2 → Nat :=
  let c0_3 : Index := 0#32
  let arg0 : BitVec 32 := BitVec.ofNat 32 (i 0).val
  let c16_i32 : BitVec 32 := 16#32
  let v4 : BitVec 32 := Scalar.muli arg0 c16_i32
  let v5 : BitVec 32 := Scalar.addi v4 c0_i32_2
  let v6 : Index := Scalar.indexCast v5
  ![0, v6.toNat]
def k0_off2 (i : grid0.Coords) (c0_i32_7 : BitVec 32) : Fin 2 → Nat :=
  let c1 : Index := 1#32
  let arg0 : BitVec 32 := BitVec.ofNat 32 (i 0).val
  let c16_i32_6 : BitVec 32 := 16#32
  let v13 : BitVec 32 := Scalar.muli arg0 c16_i32_6
  let v14 : BitVec 32 := Scalar.addi v13 c0_i32_7
  let v15 : Index := Scalar.indexCast v14
  ![1, v15.toNat]
def k0_off3 (i : grid0.Coords) (c0_i32_10 : BitVec 32) : Fin 2 → Nat :=
  let c2 : Index := 2#32
  let arg0 : BitVec 32 := BitVec.ofNat 32 (i 0).val
  let c16_i32_9 : BitVec 32 := 16#32
  let v22 : BitVec 32 := Scalar.muli arg0 c16_i32_9
  let v23 : BitVec 32 := Scalar.addi v22 c0_i32_10
  let v24 : Index := Scalar.indexCast v23
  ![2, v24.toNat]
def k0_off4 (i : grid0.Coords) (c0_i32_13 : BitVec 32) : Fin 2 → Nat :=
  let c3 : Index := 3#32
  let arg0 : BitVec 32 := BitVec.ofNat 32 (i 0).val
  let c16_i32_12 : BitVec 32 := 16#32
  let v31 : BitVec 32 := Scalar.muli arg0 c16_i32_12
  let v32 : BitVec 32 := Scalar.addi v31 c0_i32_13
  let v33 : Index := Scalar.indexCast v32
  ![3, v33.toNat]
def k0_off5 (i : grid0.Coords) (c0_i32_16 : BitVec 32) : Fin 2 → Nat :=
  let c4 : Index := 4#32
  let arg0 : BitVec 32 := BitVec.ofNat 32 (i 0).val
  let c16_i32_15 : BitVec 32 := 16#32
  let v40 : BitVec 32 := Scalar.muli arg0 c16_i32_15
  let v41 : BitVec 32 := Scalar.addi v40 c0_i32_16
  let v42 : Index := Scalar.indexCast v41
  ![4, v42.toNat]
def k0_off6 (i : grid0.Coords) (c0_i32_19 : BitVec 32) : Fin 2 → Nat :=
  let c5 : Index := 5#32
  let arg0 : BitVec 32 := BitVec.ofNat 32 (i 0).val
  let c16_i32_18 : BitVec 32 := 16#32
  let v49 : BitVec 32 := Scalar.muli arg0 c16_i32_18
  let v50 : BitVec 32 := Scalar.addi v49 c0_i32_19
  let v51 : Index := Scalar.indexCast v50
  ![5, v51.toNat]
def k0_off7 (i : grid0.Coords) (c0_i32_22 : BitVec 32) : Fin 2 → Nat :=
  let c6 : Index := 6#32
  let arg0 : BitVec 32 := BitVec.ofNat 32 (i 0).val
  let c16_i32_21 : BitVec 32 := 16#32
  let v58 : BitVec 32 := Scalar.muli arg0 c16_i32_21
  let v59 : BitVec 32 := Scalar.addi v58 c0_i32_22
  let v60 : Index := Scalar.indexCast v59
  ![6, v60.toNat]
def k0_off8 (i : grid0.Coords) (c0_i32_25 : BitVec 32) : Fin 2 → Nat :=
  let c7 : Index := 7#32
  let arg0 : BitVec 32 := BitVec.ofNat 32 (i 0).val
  let c16_i32_24 : BitVec 32 := 16#32
  let v67 : BitVec 32 := Scalar.muli arg0 c16_i32_24
  let v68 : BitVec 32 := Scalar.addi v67 c0_i32_25
  let v69 : Index := Scalar.indexCast v68
  ![7, v69.toNat]
def k0_off9 (i : grid0.Coords) (c0_i32_28 : BitVec 32) : Fin 2 → Nat :=
  let c8 : Index := 8#32
  let arg0 : BitVec 32 := BitVec.ofNat 32 (i 0).val
  let c16_i32_27 : BitVec 32 := 16#32
  let v76 : BitVec 32 := Scalar.muli arg0 c16_i32_27
  let v77 : BitVec 32 := Scalar.addi v76 c0_i32_28
  let v78 : Index := Scalar.indexCast v77
  ![8, v78.toNat]
def k0_off10 (i : grid0.Coords) (c0_i32_31 : BitVec 32) : Fin 2 → Nat :=
  let c9 : Index := 9#32
  let arg0 : BitVec 32 := BitVec.ofNat 32 (i 0).val
  let c16_i32_30 : BitVec 32 := 16#32
  let v85 : BitVec 32 := Scalar.muli arg0 c16_i32_30
  let v86 : BitVec 32 := Scalar.addi v85 c0_i32_31
  let v87 : Index := Scalar.indexCast v86
  ![9, v87.toNat]
def k0_off11 (i : grid0.Coords) (c0_i32_34 : BitVec 32) : Fin 2 → Nat :=
  let c10 : Index := 10#32
  let arg0 : BitVec 32 := BitVec.ofNat 32 (i 0).val
  let c16_i32_33 : BitVec 32 := 16#32
  let v94 : BitVec 32 := Scalar.muli arg0 c16_i32_33
  let v95 : BitVec 32 := Scalar.addi v94 c0_i32_34
  let v96 : Index := Scalar.indexCast v95
  ![10, v96.toNat]
def k0_off12 (i : grid0.Coords) (c0_i32_37 : BitVec 32) : Fin 2 → Nat :=
  let c11 : Index := 11#32
  let arg0 : BitVec 32 := BitVec.ofNat 32 (i 0).val
  let c16_i32_36 : BitVec 32 := 16#32
  let v103 : BitVec 32 := Scalar.muli arg0 c16_i32_36
  let v104 : BitVec 32 := Scalar.addi v103 c0_i32_37
  let v105 : Index := Scalar.indexCast v104
  ![11, v105.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S12x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S256x1x1536 : Shape := ⟨3, ![256, 1, 1536]⟩
abbrev S24576x1536 : Shape := ⟨2, ![24576, 1536]⟩
abbrev S192x12 : Shape := ⟨2, ![192, 12]⟩
abbrev S256x12x128 : Shape := ⟨3, ![256, 12, 128]⟩
abbrev S_ : Shape := ⟨0, ![]⟩
abbrev S256x12 : Shape := ⟨2, ![256, 12]⟩
abbrev S253 : Shape := ⟨1, ![253]⟩
abbrev S256x12x1 : Shape := ⟨3, ![256, 12, 1]⟩
abbrev S1x1x253 : Shape := ⟨3, ![1, 1, 253]⟩
abbrev S256x12x253 : Shape := ⟨3, ![256, 12, 253]⟩
abbrev S256x1536 : Shape := ⟨2, ![256, 1536]⟩
abbrev S256x24576 : Shape := ⟨2, ![256, 24576]⟩
abbrev S192x128x12x128 : Shape := ⟨4, ![192, 128, 12, 128]⟩
abbrev S192x1x12x1 : Shape := ⟨4, ![192, 1, 12, 1]⟩
abbrev S256x1x24576 : Shape := ⟨3, ![256, 1, 24576]⟩
abbrev S256x1x12 : Shape := ⟨3, ![256, 1, 12]⟩

abbrev nBuf : Space → Nat
  | .hbm => 58
  | .vmem => 7
  | .smem => 0
  | _ => 0

abbrev bufTy : (tb : Table) → Fin (tcTables nBuf tb) → BufTy
  | .hbm, ⟨0, _⟩ => ⟨S256x1x1536, .bf16⟩
  | .hbm, ⟨1, _⟩ => ⟨S24576x1536, .fp8e4m3⟩
  | .hbm, ⟨2, _⟩ => ⟨S192x12, .f32⟩
  | .hbm, ⟨3, _⟩ => ⟨S256x1x1536, .f32⟩
  | .hbm, ⟨4, _⟩ => ⟨S256x12x128, .f32⟩
  | .hbm, ⟨5, _⟩ => ⟨S256x12x128, .f32⟩
  | .hbm, ⟨6, _⟩ => ⟨S_, .f32⟩
  | .hbm, ⟨7, _⟩ => ⟨S256x12, .f32⟩
  | .hbm, ⟨8, _⟩ => ⟨S_, .f32⟩
  | .hbm, ⟨9, _⟩ => ⟨S256x12, .f32⟩
  | .hbm, ⟨10, _⟩ => ⟨S256x12, .f32⟩
  | .hbm, ⟨11, _⟩ => ⟨S253, .i32⟩
  | .hbm, ⟨12, _⟩ => ⟨S_, .i32⟩
  | .hbm, ⟨13, _⟩ => ⟨S253, .i32⟩
  | .hbm, ⟨14, _⟩ => ⟨S253, .i32⟩
  | .hbm, ⟨15, _⟩ => ⟨S253, .f32⟩
  | .hbm, ⟨16, _⟩ => ⟨S256x12x1, .f32⟩
  | .hbm, ⟨17, _⟩ => ⟨S_, .f32⟩
  | .hbm, ⟨18, _⟩ => ⟨S253, .f32⟩
  | .hbm, ⟨19, _⟩ => ⟨S253, .f32⟩
  | .hbm, ⟨20, _⟩ => ⟨S1x1x253, .f32⟩
  | .hbm, ⟨21, _⟩ => ⟨S256x12x253, .f32⟩
  | .hbm, ⟨22, _⟩ => ⟨S256x12x253, .f32⟩
  | .hbm, ⟨23, _⟩ => ⟨S256x12x253, .i1⟩
  | .hbm, ⟨24, _⟩ => ⟨S_, .f32⟩
  | .hbm, ⟨25, _⟩ => ⟨S_, .f32⟩
  | .hbm, ⟨26, _⟩ => ⟨S256x12x253, .f32⟩
  | .hbm, ⟨27, _⟩ => ⟨S256x12x253, .f32⟩
  | .hbm, ⟨28, _⟩ => ⟨S256x12x253, .f32⟩
  | .hbm, ⟨29, _⟩ => ⟨S_, .f32⟩
  | .hbm, ⟨30, _⟩ => ⟨S256x12, .f32⟩
  | .hbm, ⟨31, _⟩ => ⟨S_, .f32⟩
  | .hbm, ⟨32, _⟩ => ⟨S256x12, .f32⟩
  | .hbm, ⟨33, _⟩ => ⟨S256x12, .i1⟩
  | .hbm, ⟨34, _⟩ => ⟨S_, .f32⟩
  | .hbm, ⟨35, _⟩ => ⟨S_, .f32⟩
  | .hbm, ⟨36, _⟩ => ⟨S256x12, .f32⟩
  | .hbm, ⟨37, _⟩ => ⟨S256x12, .f32⟩
  | .hbm, ⟨38, _⟩ => ⟨S_, .f32⟩
  | .hbm, ⟨39, _⟩ => ⟨S256x12, .f32⟩
  | .hbm, ⟨40, _⟩ => ⟨S256x12, .i1⟩
  | .hbm, ⟨41, _⟩ => ⟨S_, .f32⟩
  | .hbm, ⟨42, _⟩ => ⟨S_, .f32⟩
  | .hbm, ⟨43, _⟩ => ⟨S256x12, .f32⟩
  | .hbm, ⟨44, _⟩ => ⟨S256x12, .f32⟩
  | .hbm, ⟨45, _⟩ => ⟨S_, .f32⟩
  | .hbm, ⟨46, _⟩ => ⟨S256x12, .f32⟩
  | .hbm, ⟨47, _⟩ => ⟨S256x12, .f32⟩
  | .hbm, ⟨48, _⟩ => ⟨S256x12, .f32⟩
  | .hbm, ⟨49, _⟩ => ⟨S_, .f32⟩
  | .hbm, ⟨50, _⟩ => ⟨S256x12, .f32⟩
  | .hbm, ⟨51, _⟩ => ⟨S256x12, .f32⟩
  | .hbm, ⟨52, _⟩ => ⟨S256x1536, .bf16⟩
  | .hbm, ⟨53, _⟩ => ⟨S256x24576, .bf16⟩
  | .hbm, ⟨54, _⟩ => ⟨S256x1536, .fp8e4m3⟩
  | .hbm, ⟨55, _⟩ => ⟨S256x1x24576, .bf16⟩
  | .hbm, ⟨56, _⟩ => ⟨S256x1x1536, .fp8e4m3⟩
  | .hbm, ⟨57, _⟩ => ⟨S256x1x12, .f32⟩
  | .local _ .vmem, ⟨0, _⟩ => ⟨S256x1536, .bf16⟩
  | .local _ .vmem, ⟨1, _⟩ => ⟨S256x12, .f32⟩
  | .local _ .vmem, ⟨2, _⟩ => ⟨S256x12, .f32⟩
  | .local _ .vmem, ⟨3, _⟩ => ⟨S24576x1536, .fp8e4m3⟩
  | .local _ .vmem, ⟨4, _⟩ => ⟨S192x12, .f32⟩
  | .local _ .vmem, ⟨5, _⟩ => ⟨S256x24576, .bf16⟩
  | .local _ .vmem, ⟨6, _⟩ => ⟨S256x1536, .fp8e4m3⟩
  | _, _ => ⟨S256x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_v24 : Ref sig .tc := ⟨.hbm, 44, rfl⟩
abbrev main_cst_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31_0 : Ref sig .tc := ⟨.hbm, 53, rfl⟩
abbrev main_v31_1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x24576 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
module

public import proofs.«01_k».proof.Proof.Gen.KernelIdeal.Frame
public import proofs.«01_k».proof.Proof.Gen.KernelIdeal.Skeleton

/-! What one grid step of the kernel stores, as functions of what it loads: the group quantiser, the dequantised
activations, the assembled scales, and one 256-column block of the product. Generic in the float model. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The group quantiser -/

/-- Row maximum of magnitudes times the reciprocal of the largest code. -/
def qMax (xg : Vec F S256x128 .bf16) : FVec F S256x1 .f32 :=
  mulf (shapeCast S256x1 (multiReduction .maximumf [1] S256 (absf (extf .f32 (shapeCast S256x128 xg shapeCasts_S256x128_S256x128) bitsLt_bf16_f32)) 0xFF800000#32 reduces_S256x128_S256 (.inl rfl) rfl) shapeCasts_S256_S256x1)
    (broadcast S256x1 (Scalar.ofBits .f32 0x3B124925#32))

/-- One step of the search for the exponent field: the bit `b` is kept when the value reaches `2^(field + b - 127)`. -/
def qStep (v : FVec F S256x1 .f32) (b : BitVec 32) (field : IVec S256x1 32) : IVec S256x1 32 :=
  select (cmpf .oge v (bitcastToFloat .f32 (shli (addi field (broadcast S256x1 b)) (broadcast S256x1 23#32)))) (addi field (broadcast S256x1 b)) field

/-- The exponent field after the eight steps. -/
def qField (v : FVec F S256x1 .f32) : IVec S256x1 32 :=
  qStep v 1#32 (qStep v 2#32 (qStep v 4#32 (qStep v 8#32 (qStep v 16#32 (qStep v 32#32 (qStep v 64#32 (qStep v 128#32 (broadcast S256x1 0#32))))))))

/-- The exponent, zero outside the normal numbers. -/
def qExpOf (f : IVec S256x1 32) : IVec S256x1 32 :=
  select (andi (cmpi .sgt f (broadcast S256x1 0#32)) (cmpi .slt f (broadcast S256x1 255#32))) (subi f (broadcast S256x1 126#32)) (broadcast S256x1 0#32)

/-- The exponent of a group. -/
def qExp (xg : Vec F S256x128 .bf16) : IVec S256x1 32 := qExpOf (qField (qMax xg))

/-- The power of two of an exponent, by its bits. -/
def pow2 (e : IVec S256x1 32) : FVec F S256x1 .f32 :=
  bitcastToFloat .f32 (shli (addi e (broadcast S256x1 127#32)) (broadcast S256x1 23#32))

/-- The scale of a group. -/
def qScale (xg : Vec F S256x128 .bf16) : FVec F S256x1 .f32 := pow2 (qExp xg)

/-- The codes of a group. -/
def qCodes (xg : Vec F S256x128 .bf16) : FVec F S256x128 .fp8e4m3 :=
  truncf .fp8e4m3 (minimumf (broadcast S256x128 (Scalar.ofBits .f32 0x43E00000#32)) (maximumf (broadcast S256x128 (Scalar.ofBits .f32 0xC3E00000#32))
    (mulf (extf .f32 (shapeCast S256x128 xg shapeCasts_S256x128_S256x128) bitsLt_bf16_f32)
      (broadcastTo S256x128 (pow2 (F := F) (subi (broadcast S256x1 0#32) (qExp xg))) broadcasts_S256x1_S256x128)))) bitsLt_fp8e4m3_f32

/-- The dequantised activations of a group. -/
def qXw (xg : Vec F S256x128 .bf16) : FVec F S256x128 .bf16 :=
  shapeCast S256x128 (mulf (extf .bf16 (qCodes xg) bitsLt_fp8e4m3_bf16)
    (broadcastTo S256x128 (truncf .bf16 (qScale xg) bitsLt_bf16_f32) broadcasts_S256x1_S256x128)) shapeCasts_S256x128_S256x128

/-- Lane `g` of the scales, the others kept. -/
def lane (g : BitVec 32) (s : FVec F S256x1 .f32) (acc : FVec F S256x128 .f32) : FVec F S256x128 .f32 :=
  select (cmpi .eq (iota .tc S256x128 32 [1] iota_S256x128_d1_w32) (broadcast S256x128 g))
    (broadcastTo S256x128 (shapeCast S256x1 s shapeCasts_S256x1_S256x1) broadcasts_S256x1_S256x128) acc

/-- The twelve scales, one per lane. -/
def lanes (s : Fin 12 → FVec F S256x1 .f32) : FVec F S256x128 .f32 :=
  lane 11#32 (s 11) (lane 10#32 (s 10) (lane 9#32 (s 9) (lane 8#32 (s 8) (lane 7#32 (s 7) (lane 6#32 (s 6) (lane 5#32 (s 5) (lane 4#32 (s 4) (lane 3#32 (s 3) (lane 2#32 (s 2) (lane 1#32 (s 1) (lane 0#32 (s 0) (broadcast S256x128 (Scalar.ofBits .f32 0x00000000#32)))))))))))))

/-- The scales as they are stored: group, unit axis, row. -/
def scaleOut (s : Fin 12 → FVec F S256x1 .f32) : FVec F S12x1x256 .f32 :=
  shapeCast S12x1x256 (extractStridedSlice S12x256 ![0, 0] (transpose S128x256 [1, 0] (lanes s) transposes_S256x128_p1_0_S128x256) slices_S128x256_o0_0_S12x256) shapeCasts_S12x256_S12x1x256

/-! ### The pieces of the step-zero stores -/

/-- The columns of group `g`. -/
def gRect (g : Fin 12) : Rect S256x1536 :=
  Rect.unit (s := S256x1536) ![0, 128 * g.val] S256x128.size (by revert g; decide)

def codePieces (xg : Fin 12 → Vec F S256x128 .bf16) : List (View.Piece (Elt F) S256x1536 .fp8e4m3) :=
  ([11, 10, 9, 8, 7, 6, 5, 4, 3, 2, 1, 0] : List (Fin 12)).map fun g => ⟨gRect g, qCodes (xg g)⟩

def xwPieces (xg : Fin 12 → Vec F S256x128 .bf16) : List (View.Piece (Elt F) S256x1536 .bf16) :=
  ([11, 10, 9, 8, 7, 6, 5, 4, 3, 2, 1, 0] : List (Fin 12)).map fun g => ⟨gRect g, qXw (xg g)⟩

/-! ### One block of the product -/

/-- One dequantised 128 by 128 block of the weights. -/
def wsub (s : Elt F .f32) (v : Vec F S128x128 .fp8e4m3) : FVec F S128x128 .bf16 :=
  mulf (extf .bf16 v bitsLt_fp8e4m3_bf16) (broadcast S128x128 (Scalar.truncf .bf16 bitsLt_bf16_f32 s))

/-- One row of twelve blocks. -/
def wrow (s : Fin 12 → Elt F .f32) (v : Fin 12 → Vec F S128x128 .fp8e4m3) : FVec F S128x1536 .bf16 :=
  concatenate S128x1536 1 [⟨S128x128, wsub (s 0) (v 0)⟩, ⟨S128x128, wsub (s 1) (v 1)⟩, ⟨S128x128, wsub (s 2) (v 2)⟩, ⟨S128x128, wsub (s 3) (v 3)⟩, ⟨S128x128, wsub (s 4) (v 4)⟩, ⟨S128x128, wsub (s 5) (v 5)⟩, ⟨S128x128, wsub (s 6) (v 6)⟩, ⟨S128x128, wsub (s 7) (v 7)⟩, ⟨S128x128, wsub (s 8) (v 8)⟩, ⟨S128x128, wsub (s 9) (v 9)⟩, ⟨S128x128, wsub (s 10) (v 10)⟩, ⟨S128x128, wsub (s 11) (v 11)⟩] concatenates_S128x128_S128x128_S128x128_S128x128_S128x128_S128x128_S128x128_S128x128_S128x128_S128x128_S128x128_S128x128_S128x1536_d1

/-- 256 columns of the product. -/
def ytile (xs : Vec F S256x1536 .bf16) (a b : FVec F S128x1536 .bf16) : FVec F S256x256 .bf16 :=
  truncf .bf16 (matmul dot_S256x1536_S256x1536_S256x256_1_1_0_0_n_n none xs
    (concatenate S256x1536 0 [⟨S128x1536, a⟩, ⟨S128x1536, b⟩] concatenates_S128x1536_S128x1536_S256x1536_d0)
    (constant S256x256 .f32 0x00000000#32)) bitsLt_bf16_f32

/-- The columns of tile `j`. -/
def yRect (j : Fin 8) : Rect S256x2048 :=
  Rect.unit (s := S256x2048) ![0, 256 * j.val] S256x256.size (by revert j; decide)

def yPieces (xs : Vec F S256x1536 .bf16) (s : Fin 16 → Fin 12 → Elt F .f32) (v : Fin 16 → Fin 12 → Vec F S128x128 .fp8e4m3) :
    List (View.Piece (Elt F) S256x2048 .bf16) :=
  ([7, 6, 5, 4, 3, 2, 1, 0] : List (Fin 8)).map fun j =>
    ⟨yRect j, ytile xs (wrow (s ⟨2 * j.val, by omega⟩) (v ⟨2 * j.val, by omega⟩)) (wrow (s ⟨2 * j.val + 1, by omega⟩) (v ⟨2 * j.val + 1, by omega⟩))⟩

/-- The 128 by 128 block of row block `b`, column block `g`, of the weights' block. -/
def wRect (b : Fin 16) (g : Fin 12) : Rect S2048x1536 :=
  Rect.unit (s := S2048x1536) ![128 * b.val, 128 * g.val] S128x128.size (by revert b g; decide)

/-- The scalar scale's place, as the program computes it. -/
def sOff (g : Fin 12) : grid0.Coords → BitVec 32 → Fin 2 → ℕ :=
  ![k0_off1, k0_off2, k0_off3, k0_off4, k0_off5, k0_off6, k0_off7, k0_off8, k0_off9, k0_off10, k0_off11, k0_off12] g

theorem sOff_eq (g : Fin 12) (i : grid0.Coords) (b : Fin 16) : sOff g i (BitVec.ofNat 32 b.val) = ![g.val, 16 * (i 0).val + b.val] := by
  fin_cases g
  · exact k0_off1_eq i b
  · exact k0_off2_eq i b
  · exact k0_off3_eq i b
  · exact k0_off4_eq i b
  · exact k0_off5_eq i b
  · exact k0_off6_eq i b
  · exact k0_off7_eq i b
  · exact k0_off8_eq i b
  · exact k0_off9_eq i b
  · exact k0_off10_eq i b
  · exact k0_off11_eq i b
  · exact k0_off12_eq i b

theorem sOff_inb (g : Fin 12) (i : grid0.Coords) (b : Fin 16) : ∀ a, sOff g i (BitVec.ofNat 32 b.val) a + S1x1.size a ≤ S12x192.size a := by
  fin_cases g
  · exact k0_off1_inb i b
  · exact k0_off2_inb i b
  · exact k0_off3_inb i b
  · exact k0_off4_inb i b
  · exact k0_off5_inb i b
  · exact k0_off6_inb i b
  · exact k0_off7_inb i b
  · exact k0_off8_inb i b
  · exact k0_off9_inb i b
  · exact k0_off10_inb i b
  · exact k0_off11_inb i b
  · exact k0_off12_inb i b

/-- The one-entry rectangle of the scale of row block `b`, column block `g`. -/
def sRect (i : grid0.Coords) (b : Fin 16) (g : Fin 12) : Rect S12x192 :=
  Rect.unit (s := S12x192) (sOff g i (BitVec.ofNat 32 b.val)) S1x1.size (sOff_inb g i b)

/-- The whole of the activations. -/
def xRect : Rect S256x1536 := Rect.unit (s := S256x1536) ![0, 0] S256x1536.size inb_S256x1536_S256x1536_0_0

/-- The stores of the product at a step, from the blocks of the scales, the weights, and the dequantised activations. -/
def yOf (i : grid0.Coords) (x0 : Vec F S12x192 .f32) (x2 : Vec F S2048x1536 .fp8e4m3) (xs : Vec F S256x1536 .bf16) : Vec F S256x2048 .bf16 :=
  View.canon (yPieces (View.ld xs xRect) (fun b g => View.ld x0 (sRect i b g) (Shape.Idx.first (s := S1x1) (by decide))) fun b g => View.ld x2 (wRect b g))

def codesOf (x1 : Vec F S256x1536 .bf16) : Vec F S256x1536 .fp8e4m3 := View.canon (codePieces fun g => View.ld x1 (gRect g))

def xwOf (x1 : Vec F S256x1536 .bf16) : Vec F S256x1536 .bf16 := View.canon (xwPieces fun g => View.ld x1 (gRect g))

def scaleOf (x1 : Vec F S256x1536 .bf16) : Vec F S12x1x256 .f32 :=
  View.canon [⟨Rect.unit (s := S12x1x256) ![0, 0, 0] S12x1x256.size inb_S12x1x256_S12x1x256_0_0_0, scaleOut fun g => qScale (View.ld x1 (gRect g))⟩]

theorem cover_code (xg : Fin 12 → Vec F S256x128 .bf16) : ∀ y, ∃ p ∈ codePieces xg, y ∈ p.1.set :=
  View.cover_of_tiled _ S256x128.size rfl

theorem cover_xw (xg : Fin 12 → Vec F S256x128 .bf16) : ∀ y, ∃ p ∈ xwPieces xg, y ∈ p.1.set :=
  View.cover_of_tiled _ S256x128.size rfl

theorem cover_y (xs : Vec F S256x1536 .bf16) (s : Fin 16 → Fin 12 → Elt F .f32) (v : Fin 16 → Fin 12 → Vec F S128x128 .fp8e4m3) :
    ∀ y, ∃ p ∈ yPieces xs s v, y ∈ p.1.set :=
  View.cover_of_tiled _ S256x256.size rfl

end Cert.KernelIdeal.Hand

end
-- ==== Proof.BodyA.lean ====
module

public import proofs.«01_k».proof.Proof.Gen.KernelIdeal.Frame
public import proofs.«01_k».proof.Proof.Spec

/-! The kernel's body at the first grid step: it stores the codes, the dequantised activations and the scales, then
the step's columns of the product. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4900000 in
/-- The body where the step is the first: every buffer it stores into ends at the contents that Spec.lean names. -/
theorem runA (c : Dev nD) (i : grid0.Coords) (arg1 : Memref sig .tc .smem S12x192 .f32) (harg1 : arg1.IsWhole) (arg2 : Memref sig .tc .vmem S256x1536 .bf16) (harg2 : arg2.IsWhole) (arg3 : Memref sig .tc .vmem S2048x1536 .fp8e4m3) (harg3 : arg3.IsWhole) (arg4 : Memref sig .tc .vmem S256x2048 .bf16) (harg4 : arg4.IsWhole) (arg5 : Memref sig .tc .vmem S256x1536 .fp8e4m3) (harg5 : arg5.IsWhole) (arg6 : Memref sig .tc .vmem S12x1x256 .f32) (harg6 : arg6.IsWhole) (arg7 : Memref sig .tc .vmem S256x1536 .bf16) (harg7 : arg7.IsWhole) (hc0 : k0_cond1 i = 1#1)
    (x0 : Vec F S12x192 .f32) (x1 : Vec F S256x1536 .bf16) (x2 : Vec F S2048x1536 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yOf i x0 x2 (xwOf x1)) ∗ owns (c : Thread nD τ) arg5 fullShare (codesOf x1) ∗ owns (c : Thread nD τ) arg6 fullShare (scaleOf x1) ∗ owns (c : Thread nD τ) arg7 fullShare (xwOf x1)) -∗ K ⟨⟩))
          ⊢ wp frame (wpE (defs₀ (F := F)) Variants.none c none) E (cc0_fp8_block_linear i arg1 harg1 arg2 harg2 arg3 harg3 arg4 harg4 arg5 harg5 arg6 harg6 arg7 harg7) K := by
    intro E K
    simp only [cc0_fp8_block_linear_eq_skeleton]; unfold cc0_fp8_block_linear_skel
    simp only [k0_part76_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine (congrArg (fun L => View.read (Elt F) arg4.view (arg4.view.writes (Elt F) f3 L)) (?_ : _ = yPieces
        (arg7.view.readCov (xwPieces (fun g => View.ld (View.read (Elt F) arg2.view (harg2.unread x1)) (gRect g))) xRect.toLoadRect)
        (fun b g => View.ld (View.read (Elt F) arg1.view (harg1.unread x0)) (sRect i b g) (Shape.Idx.first (s := S1x1) (by decide)))
        fun b g => View.ld (View.read (Elt F) arg3.view (harg3.unread x2)) (wRect b g))).trans ?_
      · rfl
      · rw [hf0, hf1, hf2]
        exact (congrArg (fun z => View.read (Elt F) arg4.view (arg4.view.writes (Elt F) f3 (yPieces z _ _)))
          (View.readCov_eq_canon_ld arg7.view _ xRect (cover_xw _))).trans (View.read_writes_eq_canon _ _ _ (cover_y _ _ _))
    isplitl [H4]
    · iexists _; isplitr; swap; · iexact H4
      ipureintro
      refine (congrArg (fun L => View.read (Elt F) arg5.view (arg5.view.writes (Elt F) f4 L)) (?_ : _ = codePieces (fun g => View.ld (View.read (Elt F) arg2.view (harg2.unread x1)) (gRect g)))).trans ?_
      · rfl
      · rw [hf1]
        exact View.read_writes_eq_canon _ _ _ (cover_code _)
    isplitl [H5]
    · iexists _; isplitr; swap; · iexact H5
      ipureintro
      refine (congrArg (fun L => View.read (Elt F) arg6.view (arg6.view.writes (Elt F) f5 L)) (?_ : _ = [⟨Rect.unit (s := S12x1x256) ![0, 0, 0] S12x1x256.size inb_S12x1x256_S12x1x256_0_0_0, scaleOut fun g => qScale (View.ld (View.read (Elt F) arg2.view (harg2.unread x1)) (gRect g))⟩])).trans ?_
      · rfl
      · rw [hf1]
        exact View.read_writes_eq_canon _ _ _ (View.cover_of_tiled _ S12x1x256.size rfl)
    iexists _; isplitr; swap; · iexact HS0
    ipureintro
    refine (congrArg (fun L => View.read (Elt F) arg7.view (arg7.view.writes (Elt F) fs0 L)) (?_ : _ = xwPieces (fun g => View.ld (View.read (Elt F) arg2.view (harg2.unread x1)) (gRect g)))).trans ?_
    · rfl
    · rw [hf1]
      exact View.read_writes_eq_canon _ _ _ (cover_xw _)

end Cert.KernelIdeal.Hand

end
-- ==== Proof.BodyB.lean ====
module

public import proofs.«01_k».proof.Proof.Gen.KernelIdeal.Frame
public import proofs.«01_k».proof.Proof.Spec

/-! The kernel's body at a later grid step: it stores the step's columns of the product and leaves the codes, the scales
and the dequantised activations as they are. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4312000 in
/-- The body where the step is not the first: only the product's buffer changes. -/
theorem runB (c : Dev nD) (i : grid0.Coords) (arg1 : Memref sig .tc .smem S12x192 .f32) (harg1 : arg1.IsWhole) (arg2 : Memref sig .tc .vmem S256x1536 .bf16) (harg2 : arg2.IsWhole) (arg3 : Memref sig .tc .vmem S2048x1536 .fp8e4m3) (harg3 : arg3.IsWhole) (arg4 : Memref sig .tc .vmem S256x2048 .bf16) (harg4 : arg4.IsWhole) (arg5 : Memref sig .tc .vmem S256x1536 .fp8e4m3) (harg5 : arg5.IsWhole) (arg6 : Memref sig .tc .vmem S12x1x256 .f32) (harg6 : arg6.IsWhole) (arg7 : Memref sig .tc .vmem S256x1536 .bf16) (harg7 : arg7.IsWhole) (hc0 : ¬ k0_cond1 i = 1#1)
    (x0 : Vec F S12x192 .f32) (x2 : Vec F S2048x1536 .fp8e4m3) (xs : Vec F S256x1536 .bf16) :
      ∀ (E : Set ℕ) (K : PUnit → sProp 𝕄),
        iprop(owns (c : Thread nD τ) arg1 fullShare x0 ∗ owns (c : Thread nD τ) arg3 fullShare x2 ∗ (∃ d, owns (c : Thread nD τ) arg4 fullShare d) ∗ owns (c : Thread nD τ) arg7 fullShare xs
            ∗ (iprop(owns (c : Thread nD τ) arg1 fullShare x0 ∗ owns (c : Thread nD τ) arg3 fullShare x2 ∗ owns (c : Thread nD τ) arg4 fullShare (yOf i x0 x2 xs) ∗ owns (c : Thread nD τ) arg7 fullShare xs) -∗ K ⟨⟩))
          ⊢ wp frame (wpE (defs₀ (F := F)) Variants.none c none) E (cc0_fp8_block_linear i arg1 harg1 arg2 harg2 arg3 harg3 arg4 harg4 arg5 harg5 arg6 harg6 arg7 harg7) K := by
    intro E K
    simp only [cc0_fp8_block_linear_eq_skeleton]; unfold cc0_fp8_block_linear_skel
    simp only [k0_part76_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f2, %hf2, H2⟩, ⟨%d3, %f3, -, H3⟩, ⟨%fs0, %hfs0, HS0⟩, Hk⟩
    obtain rfl := harg1.eq_unread hf0; obtain rfl := harg3.eq_unread hf2; obtain rfl := harg7.eq_unread hfs0
    sl_exec (disch := first | sl_exact hc0)
    sl_step
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; swap; · iexact H3
      ipureintro
      refine (congrArg (fun L => View.read (Elt F) arg4.view (arg4.view.writes (Elt F) f3 L)) (?_ : _ = yPieces
        (View.ld (View.read (Elt F) arg7.view (harg7.unread xs)) xRect)
        (fun b g => View.ld (View.read (Elt F) arg1.view (harg1.unread x0)) (sRect i b g) (Shape.Idx.first (s := S1x1) (by decide)))
        fun b g => View.ld (View.read (Elt F) arg3.view (harg3.unread x2)) (wRect b g))).trans ?_
      · rfl
      · rw [hf0, hf2, hfs0]
        exact View.read_writes_eq_canon _ _ _ (cover_y _ _ _)
    iexists _; isplitr; · ipureintro; exact harg7.read_unread _
    iexact HS0

end Cert.KernelIdeal.Hand

end
-- ==== Proof.Run.lean ====
module

public import proofs.«01_k».proof.Proof.BodyA
public import proofs.«01_k».proof.Proof.BodyB
public import Idealize.ShloMosaic.Lib.Claim

/-! The run of the whole program: what every staging buffer and the scratch hold point by point, the body's
obligation, and the run to the named contents of all outputs. Generic in the float model. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The branch, the staging memrefs, the scratch -/

/-- The branch of the body, as a proposition. -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Each window's current staging memref at point `t`, spelled as the pipeline passes it (`bodyAt0`), and its wholeness. -/
abbrev ms0_0 (t : Fin cfg0.N) : Memref sig .tc .smem S12x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1536 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1536 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x1536 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-! ### The proof data -/

/-- The first grid point. -/
def t0 : Fin cfg0.N := ⟨0, by rw [show cfg0.N = 12 from N_0]; decide⟩

/-- The activations, as the window stages them (the same block at every point). -/
def xin (c : Dev nD) : Vec F S256x1536 .bf16 := iblk m c 1 t0

/-- What is carried before point `n`: the scratch at anything before the first point, at the dequantised
    activations after it; the generator's register at anything. -/
def PhiAt (c : Dev nD) : ℕ → sProp 𝕄
  | 0 => Pipeline.ΦA spec0 c
  | _ + 1 => iprop(owns (c : Thread nD τ) scM0_0 fullShare (xwOf (xin m c)) ∗ (∃ r, prngReg c r))

/-- The contents of every staging buffer after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOf (grid0.coords t) (iblk m c 0 t) (iblk m c 2 t) (xwOf (xin m c))
    | ⟨4, _⟩ => codesOf (xin m c)
    | ⟨5, _⟩ => scaleOf (xin m c)
  Φ t := PhiAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = yOf (grid0.coords t) (iblk m c 0 t) (iblk m c 2 t) (xwOf (xin m c)) := by dsimp only [dats]
theorem after0_4 (c : Dev nD) (t : Fin cfg0.N) : (dats m 0 c).after 4 t = codesOf (xin m c) := by dsimp only [dats]
theorem after0_5 (c : Dev nD) (t : Fin cfg0.N) : (dats m 0 c).after 5 t = scaleOf (xin m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle0_4 (t : Fin cfg0.N) : cfg0.idle 4 (grid0.coords t) = !(k0_cond1 (grid0.coords t) == 1#1) := rfl
theorem idle0_5 (t : Fin cfg0.N) : cfg0.idle 5 (grid0.coords t) = !(k0_cond1 (grid0.coords t) == 1#1) := rfl

/-- After the first point window 4's buffer holds what the first point left: no later point stores into it or writes
    it back before the last. -/
theorem before0_4 (c : Dev nD) : ∀ (n : ℕ) (h : n < cfg0.N), n ≠ 0 → ∀ d,
    (dats m 0 c).before 4 ⟨n, h⟩ d = codesOf (xin m c)
  | 0, _, h0, _ => absurd rfl h0
  | n + 1, h, _, d => by
    have hN : n + 1 < 12 := lt_of_lt_of_eq h (show cfg0.N = 12 from N_0)
    have hfl : (cfg0.win 4).flush ⟨n, Nat.lt_of_succ_lt h⟩ = false := by
      rw [Bool.eq_false_iff, ne_eq, flush0_4]; dsimp only; omega
    rw [(dats m 0 c).before_of_pos 4 ⟨n + 1, h⟩ (Nat.succ_ne_zero n) rfl d]
    refine (if_neg (by rw [Bool.not_eq_true]; exact hfl)).trans ?_
    unfold Dat.left
    have hid := idle0_4 ⟨n, Nat.lt_of_succ_lt h⟩
    by_cases hn : n = 0
    · subst hn
      rw [(hcond0_0 ⟨0, Nat.lt_of_succ_lt h⟩).mpr rfl] at hid
      have hid' : cfg0.idle 4 (cfg0.grid.coords ⟨0 + 1 - 1, Nat.lt_of_succ_lt h⟩) = false := hid
      rw [hid']
      show (dats m 0 c).kept 4 ⟨0 + 1 - 1, Nat.lt_of_succ_lt h⟩ d = codesOf (xin m c)
      unfold Dat.kept
      rw [after0_4]
      exact (Pipeline.fill_of_clip_none (cfg := cfg0) 4 (cfg0.grid.coords ⟨0 + 1 - 1, Nat.lt_of_succ_lt h⟩) (fun _ => rfl) d (codesOf (xin m c)) _).trans
        ((cfg0.win 4).fill_cut _ _)
    · have hc : ¬ k0_cond1 (grid0.coords ⟨n, Nat.lt_of_succ_lt h⟩) = 1#1 := fun hh => hn (by
        have := (hcond0_0 ⟨n, Nat.lt_of_succ_lt h⟩).mp hh; dsimp only at this; omega)
      rw [beq_false_of_ne hc] at hid
      have hid' : cfg0.idle 4 (cfg0.grid.coords ⟨n + 1 - 1, Nat.lt_of_succ_lt h⟩) = true := hid
      rw [hid']
      exact before0_4 c n _ hn d

/-- After the first point window 5's buffer holds what the first point left: no later point stores into it or writes
    it back before the last. -/
theorem before0_5 (c : Dev nD) : ∀ (n : ℕ) (h : n < cfg0.N), n ≠ 0 → ∀ d,
    (dats m 0 c).before 5 ⟨n, h⟩ d = scaleOf (xin m c)
  | 0, _, h0, _ => absurd rfl h0
  | n + 1, h, _, d => by
    have hN : n + 1 < 12 := lt_of_lt_of_eq h (show cfg0.N = 12 from N_0)
    have hfl : (cfg0.win 5).flush ⟨n, Nat.lt_of_succ_lt h⟩ = false := by
      rw [Bool.eq_false_iff, ne_eq, flush0_5]; dsimp only; omega
    rw [(dats m 0 c).before_of_pos 5 ⟨n + 1, h⟩ (Nat.succ_ne_zero n) rfl d]
    refine (if_neg (by rw [Bool.not_eq_true]; exact hfl)).trans ?_
    unfold Dat.left
    have hid := idle0_5 ⟨n, Nat.lt_of_succ_lt h⟩
    by_cases hn : n = 0
    · subst hn
      rw [(hcond0_0 ⟨0, Nat.lt_of_succ_lt h⟩).mpr rfl] at hid
      have hid' : cfg0.idle 5 (cfg0.grid.coords ⟨0 + 1 - 1, Nat.lt_of_succ_lt h⟩) = false := hid
      rw [hid']
      show (dats m 0 c).kept 5 ⟨0 + 1 - 1, Nat.lt_of_succ_lt h⟩ d = scaleOf (xin m c)
      unfold Dat.kept
      rw [after0_5]
      exact (Pipeline.fill_of_clip_none (cfg := cfg0) 5 (cfg0.grid.coords ⟨0 + 1 - 1, Nat.lt_of_succ_lt h⟩) (fun _ => rfl) d (scaleOf (xin m c)) _).trans
        ((cfg0.win 5).fill_cut _ _)
    · have hc : ¬ k0_cond1 (grid0.coords ⟨n, Nat.lt_of_succ_lt h⟩) = 1#1 := fun hh => hn (by
        have := (hcond0_0 ⟨n, Nat.lt_of_succ_lt h⟩).mp hh; dsimp only at this; omega)
      rw [beq_false_of_ne hc] at hid
      have hid' : cfg0.idle 5 (cfg0.grid.coords ⟨n + 1 - 1, Nat.lt_of_succ_lt h⟩) = true := hid
      rw [hid']
      exact before0_5 c n _ hn d

/-! ### The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A buffer of window 4 at the named contents is what the body may leave, at every point. -/
theorem leaves0_4 (c : Dev nD) (t : Fin cfg0.N) :
    owns (c : Thread nD τ) (ms0_4 t) fullShare ((dats m 0 c).after 4 t) ⊢ ((dats m 0 c).leavesExact 4 t : sProp 𝕄) := by
  unfold Dat.leavesExact
  have hid := idle0_4 t
  by_cases h0 : t.val % 12 = 0
  · rw [(hcond0_0 t).mpr h0] at hid
    have hid' : cfg0.idle 4 (cfg0.grid.coords t) = false := hid
    rw [hid']
  · have hc : ¬ k0_cond1 (grid0.coords t) = 1#1 := fun hh => h0 ((hcond0_0 t).mp hh)
    rw [beq_false_of_ne hc] at hid
    have hid' : cfg0.idle 4 (cfg0.grid.coords t) = true := hid
    rw [hid']
    cases hf : (cfg0.win 4).flush t
    · iintro H
      iexists ((dats m 0 c).after 4 t)
      rw [before0_4 m c t.val t.isLt (fun h => h0 (by rw [h])), after0_4]
      iexact H
    · exact .rfl

/-- A buffer of window 5 at the named contents is what the body may leave, at every point. -/
theorem leaves0_5 (c : Dev nD) (t : Fin cfg0.N) :
    owns (c : Thread nD τ) (ms0_5 t) fullShare ((dats m 0 c).after 5 t) ⊢ ((dats m 0 c).leavesExact 5 t : sProp 𝕄) := by
  unfold Dat.leavesExact
  have hid := idle0_5 t
  by_cases h0 : t.val % 12 = 0
  · rw [(hcond0_0 t).mpr h0] at hid
    have hid' : cfg0.idle 5 (cfg0.grid.coords t) = false := hid
    rw [hid']
  · have hc : ¬ k0_cond1 (grid0.coords t) = 1#1 := fun hh => h0 ((hcond0_0 t).mp hh)
    rw [beq_false_of_ne hc] at hid
    have hid' : cfg0.idle 5 (cfg0.grid.coords t) = true := hid
    rw [hid']
    cases hf : (cfg0.win 5).flush t
    · iintro H
      iexists ((dats m 0 c).after 5 t)
      rw [before0_5 m c t.val t.isLt (fun h => h0 (by rw [h])), after0_5]
      iexact H
    · exact .rfl

theorem Phi_zero (c : Dev nD) (t : Fin cfg0.N) (h : t.val = 0) : (dats m 0 c).Φ t.castSucc
    = iprop(iprop((∃ d, owns (c : Thread nD τ) scM0_0 fullShare d)) ∗ (∃ r, prngReg c r)) := by
  rw [← PhiA0_eq]
  show PhiAt m c t.val = _
  rw [h]; rfl

theorem Phi_pos (c : Dev nD) (t : Fin cfg0.N) (h : t.val ≠ 0) : (dats m 0 c).Φ t.castSucc
    = iprop(owns (c : Thread nD τ) scM0_0 fullShare (xwOf (xin m c)) ∗ (∃ r, prngReg c r)) := by
  show PhiAt m c t.val = _
  obtain ⟨n, hn⟩ := Nat.exists_eq_succ_of_ne_zero h
  rw [hn]; rfl

theorem Phi_succ (c : Dev nD) (t : Fin cfg0.N) : (dats m 0 c).Φ t.succ
    = iprop(owns (c : Thread nD τ) scM0_0 fullShare (xwOf (xin m c)) ∗ (∃ r, prngReg c r)) := rfl

set_option maxHeartbeats 800000 in
/-- The body at any point: the first point's run where the branch holds, the other's elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_succ, show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [show cfg0.idle 3 (cfg0.grid.coords t) = false from rfl], after0_3]
  have hN : t.val < 12 := lt_of_lt_of_eq t.isLt (show cfg0.N = 12 from N_0)
  by_cases h0 : t.val % 12 = 0
  · have ht : t = t0 := Fin.ext (by show t.val = 0; omega)
    rw [Phi_zero m c t (by omega)]
    iintro ⟨⟨HS0, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    rw [show (iblk m c 1 t : Vec F S256x1536 .bf16) = xin m c from by subst ht; rfl]
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · iapply (leaves0_4 m c t); rw [after0_4]; iexact H4
    iapply (leaves0_5 m c t); rw [after0_5]; iexact H5
  · have ht : t.val ≠ 0 := fun h => h0 (by rw [h])
    rw [Phi_pos m c t ht]
    simp only [before0_4 m c t.val t.isLt ht, before0_5 m c t.val t.isLt ht]
    iintro ⟨⟨HS0, Hg⟩, Ho, ⟨%d0, H0⟩, ⟨%d1, H1⟩, ⟨%d2, H2⟩, ⟨%d3, H3⟩, ⟨%d4, H4⟩, ⟨%d5, H5⟩⟩
    iapply (runB c (grid0.coords t) _ _ _ (hs0_1 t) _ _ _ _ _ (hs0_4 t) _ (hs0_5 t) _ _ (fun h => h0 ((hcond0_0 t).mp h)) (iblk m c 0 t) (iblk m c 2 t) (xwOf (xin m c)) Set.univ _)
    isplitl [H0]; · iexact H0
    isplitl [H2]; · iexact H2
    isplitl [H3]; · iexists _; iexact H3
    isplitl [HS0]; · iexact HS0
    iintro ⟨H0, H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · iapply (leaves0_4 m c t); rw [after0_4]; iexact H4
    iapply (leaves0_5 m c t); rw [after0_5]; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_out (c : Dev nD) : (dats m 0 c).Φ (Fin.last cfg0.N) ⊢ (Pipeline.ΦA spec0 c : sProp 𝕄) := by
  rw [PhiA0_eq]
  show PhiAt m c cfg0.N ⊢ _
  rw [show cfg0.N = 11 + 1 from N_0]
  show iprop(owns (c : Thread nD τ) scM0_0 fullShare (xwOf (xin m c)) ∗ (∃ r, prngReg c r)) ⊢ _
  iintro ⟨H, Hg⟩
  isplitl [H]
  · iexists _; iexact H
  iexact Hg

/-! ### The run and the frame -/

set_option backward.isDefEq.respectTransparency.types false in
set_option maxHeartbeats 800000 in
/-- Every execution ends with the pipeline's arrays at their named contents, the later lines' results computed from
    them, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := Phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Origin.Spec.lean ====
module

public import proofs.«01_k».proof.Proof.Gen.Kernel.Frame
public import proofs.«01_k».proof.Proof.Gen.Kernel.Skeleton

/-! What one grid step of the kernel stores, as functions of what it loads: the group quantiser, the dequantised
activations, the assembled scales, and one 256-column block of the product. Generic in the float model. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The group quantiser -/

/-- Row maximum of magnitudes times the reciprocal of the largest code. -/
def qMax (xg : Vec F S256x128 .bf16) : FVec F S256x1 .f32 :=
  mulf (shapeCast S256x1 (multiReduction .maximumf [1] S256 (absf (extf .f32 (shapeCast S256x128 xg shapeCasts_S256x128_S256x128) bitsLt_bf16_f32)) 0xFF800000#32 reduces_S256x128_S256 (.inl rfl) rfl) shapeCasts_S256_S256x1)
    (broadcast S256x1 (Scalar.ofBits .f32 0x3B124925#32))

/-- One step of the search for the exponent field: the bit `b` is kept when the value reaches `2^(field + b - 127)`. -/
def qStep (v : FVec F S256x1 .f32) (b : BitVec 32) (field : IVec S256x1 32) : IVec S256x1 32 :=
  select (cmpf .oge v (bitcastToFloat .f32 (shli (addi field (broadcast S256x1 b)) (broadcast S256x1 23#32)))) (addi field (broadcast S256x1 b)) field

/-- The exponent field after the eight steps. -/
def qField (v : FVec F S256x1 .f32) : IVec S256x1 32 :=
  qStep v 1#32 (qStep v 2#32 (qStep v 4#32 (qStep v 8#32 (qStep v 16#32 (qStep v 32#32 (qStep v 64#32 (qStep v 128#32 (broadcast S256x1 0#32))))))))

/-- The exponent, zero outside the normal numbers. -/
def qExpOf (f : IVec S256x1 32) : IVec S256x1 32 :=
  select (andi (cmpi .sgt f (broadcast S256x1 0#32)) (cmpi .slt f (broadcast S256x1 255#32))) (subi f (broadcast S256x1 126#32)) (broadcast S256x1 0#32)

/-- The exponent of a group. -/
def qExp (xg : Vec F S256x128 .bf16) : IVec S256x1 32 := qExpOf (qField (qMax xg))

/-- The power of two of an exponent, by its bits. -/
def pow2 (e : IVec S256x1 32) : FVec F S256x1 .f32 :=
  bitcastToFloat .f32 (shli (addi e (broadcast S256x1 127#32)) (broadcast S256x1 23#32))

/-- The scale of a group. -/
def qScale (xg : Vec F S256x128 .bf16) : FVec F S256x1 .f32 := pow2 (qExp xg)

/-- The codes of a group. -/
def qCodes (xg : Vec F S256x128 .bf16) : FVec F S256x128 .fp8e4m3 :=
  truncf .fp8e4m3 (minimumf (broadcast S256x128 (Scalar.ofBits .f32 0x43E00000#32)) (maximumf (broadcast S256x128 (Scalar.ofBits .f32 0xC3E00000#32))
    (mulf (extf .f32 (shapeCast S256x128 xg shapeCasts_S256x128_S256x128) bitsLt_bf16_f32)
      (broadcastTo S256x128 (pow2 (F := F) (subi (broadcast S256x1 0#32) (qExp xg))) broadcasts_S256x1_S256x128)))) bitsLt_fp8e4m3_f32

/-- The dequantised activations of a group. -/
def qXw (xg : Vec F S256x128 .bf16) : FVec F S256x128 .bf16 :=
  shapeCast S256x128 (mulf (extf .bf16 (qCodes xg) bitsLt_fp8e4m3_bf16)
    (broadcastTo S256x128 (truncf .bf16 (qScale xg) bitsLt_bf16_f32) broadcasts_S256x1_S256x128)) shapeCasts_S256x128_S256x128

/-- Lane `g` of the scales, the others kept. -/
def lane (g : BitVec 32) (s : FVec F S256x1 .f32) (acc : FVec F S256x128 .f32) : FVec F S256x128 .f32 :=
  select (cmpi .eq (iota .tc S256x128 32 [1] iota_S256x128_d1_w32) (broadcast S256x128 g))
    (broadcastTo S256x128 (shapeCast S256x1 s shapeCasts_S256x1_S256x1) broadcasts_S256x1_S256x128) acc

/-- The twelve scales, one per lane. -/
def lanes (s : Fin 12 → FVec F S256x1 .f32) : FVec F S256x128 .f32 :=
  lane 11#32 (s 11) (lane 10#32 (s 10) (lane 9#32 (s 9) (lane 8#32 (s 8) (lane 7#32 (s 7) (lane 6#32 (s 6) (lane 5#32 (s 5) (lane 4#32 (s 4) (lane 3#32 (s 3) (lane 2#32 (s 2) (lane 1#32 (s 1) (lane 0#32 (s 0) (broadcast S256x128 (Scalar.ofBits .f32 0x00000000#32)))))))))))))

/-- The scales as they are stored: group, unit axis, row. -/
def scaleOut (s : Fin 12 → FVec F S256x1 .f32) : FVec F S12x1x256 .f32 :=
  shapeCast S12x1x256 (extractStridedSlice S12x256 ![0, 0] (transpose S128x256 [1, 0] (lanes s) transposes_S256x128_p1_0_S128x256) slices_S128x256_o0_0_S12x256) shapeCasts_S12x256_S12x1x256

/-! ### The pieces of the step-zero stores -/

/-- The columns of group `g`. -/
def gRect (g : Fin 12) : Rect S256x1536 :=
  Rect.unit (s := S256x1536) ![0, 128 * g.val] S256x128.size (by revert g; decide)

def codePieces (xg : Fin 12 → Vec F S256x128 .bf16) : List (View.Piece (Elt F) S256x1536 .fp8e4m3) :=
  ([11, 10, 9, 8, 7, 6, 5, 4, 3, 2, 1, 0] : List (Fin 12)).map fun g => ⟨gRect g, qCodes (xg g)⟩

def xwPieces (xg : Fin 12 → Vec F S256x128 .bf16) : List (View.Piece (Elt F) S256x1536 .bf16) :=
  ([11, 10, 9, 8, 7, 6, 5, 4, 3, 2, 1, 0] : List (Fin 12)).map fun g => ⟨gRect g, qXw (xg g)⟩

/-! ### One block of the product -/

/-- One dequantised 128 by 128 block of the weights. -/
def wsub (s : Elt F .f32) (v : Vec F S128x128 .fp8e4m3) : FVec F S128x128 .bf16 :=
  mulf (extf .bf16 v bitsLt_fp8e4m3_bf16) (broadcast S128x128 (Scalar.truncf .bf16 bitsLt_bf16_f32 s))

/-- One row of twelve blocks. -/
def wrow (s : Fin 12 → Elt F .f32) (v : Fin 12 → Vec F S128x128 .fp8e4m3) : FVec F S128x1536 .bf16 :=
  concatenate S128x1536 1 [⟨S128x128, wsub (s 0) (v 0)⟩, ⟨S128x128, wsub (s 1) (v 1)⟩, ⟨S128x128, wsub (s 2) (v 2)⟩, ⟨S128x128, wsub (s 3) (v 3)⟩, ⟨S128x128, wsub (s 4) (v 4)⟩, ⟨S128x128, wsub (s 5) (v 5)⟩, ⟨S128x128, wsub (s 6) (v 6)⟩, ⟨S128x128, wsub (s 7) (v 7)⟩, ⟨S128x128, wsub (s 8) (v 8)⟩, ⟨S128x128, wsub (s 9) (v 9)⟩, ⟨S128x128, wsub (s 10) (v 10)⟩, ⟨S128x128, wsub (s 11) (v 11)⟩] concatenates_S128x128_S128x128_S128x128_S128x128_S128x128_S128x128_S128x128_S128x128_S128x128_S128x128_S128x128_S128x128_S128x1536_d1

/-- 256 columns of the product. -/
def ytile (xs : Vec F S256x1536 .bf16) (a b : FVec F S128x1536 .bf16) : FVec F S256x256 .bf16 :=
  truncf .bf16 (matmul dot_S256x1536_S256x1536_S256x256_1_1_0_0_n_n none xs
    (concatenate S256x1536 0 [⟨S128x1536, a⟩, ⟨S128x1536, b⟩] concatenates_S128x1536_S128x1536_S256x1536_d0)
    (constant S256x256 .f32 0x00000000#32)) bitsLt_bf16_f32

/-- The columns of tile `j`. -/
def yRect (j : Fin 8) : Rect S256x2048 :=
  Rect.unit (s := S256x2048) ![0, 256 * j.val] S256x256.size (by revert j; decide)

def yPieces (xs : Vec F S256x1536 .bf16) (s : Fin 16 → Fin 12 → Elt F .f32) (v : Fin 16 → Fin 12 → Vec F S128x128 .fp8e4m3) :
    List (View.Piece (Elt F) S256x2048 .bf16) :=
  ([7, 6, 5, 4, 3, 2, 1, 0] : List (Fin 8)).map fun j =>
    ⟨yRect j, ytile xs (wrow (s ⟨2 * j.val, by omega⟩) (v ⟨2 * j.val, by omega⟩)) (wrow (s ⟨2 * j.val + 1, by omega⟩) (v ⟨2 * j.val + 1, by omega⟩))⟩

/-- The 128 by 128 block of row block `b`, column block `g`, of the weights' block. -/
def wRect (b : Fin 16) (g : Fin 12) : Rect S2048x1536 :=
  Rect.unit (s := S2048x1536) ![128 * b.val, 128 * g.val] S128x128.size (by revert b g; decide)

/-- The scalar scale's place, as the program computes it. -/
def sOff (g : Fin 12) : grid0.Coords → BitVec 32 → Fin 2 → ℕ :=
  ![k0_off1, k0_off2, k0_off3, k0_off4, k0_off5, k0_off6, k0_off7, k0_off8, k0_off9, k0_off10, k0_off11, k0_off12] g

theorem sOff_eq (g : Fin 12) (i : grid0.Coords) (b : Fin 16) : sOff g i (BitVec.ofNat 32 b.val) = ![g.val, 16 * (i 0).val + b.val] := by
  fin_cases g
  · exact k0_off1_eq i b
  · exact k0_off2_eq i b
  · exact k0_off3_eq i b
  · exact k0_off4_eq i b
  · exact k0_off5_eq i b
  · exact k0_off6_eq i b
  · exact k0_off7_eq i b
  · exact k0_off8_eq i b
  · exact k0_off9_eq i b
  · exact k0_off10_eq i b
  · exact k0_off11_eq i b
  · exact k0_off12_eq i b

theorem sOff_inb (g : Fin 12) (i : grid0.Coords) (b : Fin 16) : ∀ a, sOff g i (BitVec.ofNat 32 b.val) a + S1x1.size a ≤ S12x192.size a := by
  fin_cases g
  · exact k0_off1_inb i b
  · exact k0_off2_inb i b
  · exact k0_off3_inb i b
  · exact k0_off4_inb i b
  · exact k0_off5_inb i b
  · exact k0_off6_inb i b
  · exact k0_off7_inb i b
  · exact k0_off8_inb i b
  · exact k0_off9_inb i b
  · exact k0_off10_inb i b
  · exact k0_off11_inb i b
  · exact k0_off12_inb i b

/-- The one-entry rectangle of the scale of row block `b`, column block `g`. -/
def sRect (i : grid0.Coords) (b : Fin 16) (g : Fin 12) : Rect S12x192 :=
  Rect.unit (s := S12x192) (sOff g i (BitVec.ofNat 32 b.val)) S1x1.size (sOff_inb g i b)

/-- The whole of the activations. -/
def xRect : Rect S256x1536 := Rect.unit (s := S256x1536) ![0, 0] S256x1536.size inb_S256x1536_S256x1536_0_0

/-- The stores of the product at a step, from the blocks of the scales, the weights, and the dequantised activations. -/
def yOf (i : grid0.Coords) (x0 : Vec F S12x192 .f32) (x2 : Vec F S2048x1536 .fp8e4m3) (xs : Vec F S256x1536 .bf16) : Vec F S256x2048 .bf16 :=
  View.canon (yPieces (View.ld xs xRect) (fun b g => View.ld x0 (sRect i b g) (Shape.Idx.first (s := S1x1) (by decide))) fun b g => View.ld x2 (wRect b g))

def codesOf (x1 : Vec F S256x1536 .bf16) : Vec F S256x1536 .fp8e4m3 := View.canon (codePieces fun g => View.ld x1 (gRect g))

def xwOf (x1 : Vec F S256x1536 .bf16) : Vec F S256x1536 .bf16 := View.canon (xwPieces fun g => View.ld x1 (gRect g))

def scaleOf (x1 : Vec F S256x1536 .bf16) : Vec F S12x1x256 .f32 :=
  View.canon [⟨Rect.unit (s := S12x1x256) ![0, 0, 0] S12x1x256.size inb_S12x1x256_S12x1x256_0_0_0, scaleOut fun g => qScale (View.ld x1 (gRect g))⟩]

theorem cover_code (xg : Fin 12 → Vec F S256x128 .bf16) : ∀ y, ∃ p ∈ codePieces xg, y ∈ p.1.set :=
  View.cover_of_tiled _ S256x128.size rfl

theorem cover_xw (xg : Fin 12 → Vec F S256x128 .bf16) : ∀ y, ∃ p ∈ xwPieces xg, y ∈ p.1.set :=
  View.cover_of_tiled _ S256x128.size rfl

theorem cover_y (xs : Vec F S256x1536 .bf16) (s : Fin 16 → Fin 12 → Elt F .f32) (v : Fin 16 → Fin 12 → Vec F S128x128 .fp8e4m3) :
    ∀ y, ∃ p ∈ yPieces xs s v, y ∈ p.1.set :=
  View.cover_of_tiled _ S256x256.size rfl

end Cert.Kernel.Hand

end
-- ==== Proof.Origin.BodyA.lean ====
module

public import proofs.«01_k».proof.Proof.Gen.Kernel.Frame
public import proofs.«01_k».proof.Proof.Origin.Spec

/-! The kernel's body at the first grid step: it stores the codes, the dequantised activations and the scales, then
the step's columns of the product. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4900000 in
/-- The body where the step is the first: every buffer it stores into ends at the contents that Spec.lean names. -/
theorem runA (c : Dev nD) (i : grid0.Coords) (arg1 : Memref sig .tc .smem S12x192 .f32) (harg1 : arg1.IsWhole) (arg2 : Memref sig .tc .vmem S256x1536 .bf16) (harg2 : arg2.IsWhole) (arg3 : Memref sig .tc .vmem S2048x1536 .fp8e4m3) (harg3 : arg3.IsWhole) (arg4 : Memref sig .tc .vmem S256x2048 .bf16) (harg4 : arg4.IsWhole) (arg5 : Memref sig .tc .vmem S256x1536 .fp8e4m3) (harg5 : arg5.IsWhole) (arg6 : Memref sig .tc .vmem S12x1x256 .f32) (harg6 : arg6.IsWhole) (arg7 : Memref sig .tc .vmem S256x1536 .bf16) (harg7 : arg7.IsWhole) (hc0 : k0_cond1 i = 1#1)
    (x0 : Vec F S12x192 .f32) (x1 : Vec F S256x1536 .bf16) (x2 : Vec F S2048x1536 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yOf i x0 x2 (xwOf x1)) ∗ owns (c : Thread nD τ) arg5 fullShare (codesOf x1) ∗ owns (c : Thread nD τ) arg6 fullShare (scaleOf x1) ∗ owns (c : Thread nD τ) arg7 fullShare (xwOf x1)) -∗ K ⟨⟩))
          ⊢ wp frame (wpE (defs₀ (F := F)) Variants.none c none) E (cc0_fp8_block_linear i arg1 harg1 arg2 harg2 arg3 harg3 arg4 harg4 arg5 harg5 arg6 harg6 arg7 harg7) K := by
    intro E K
    simp only [cc0_fp8_block_linear_eq_skeleton]; unfold cc0_fp8_block_linear_skel
    simp only [k0_part76_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine (congrArg (fun L => View.read (Elt F) arg4.view (arg4.view.writes (Elt F) f3 L)) (?_ : _ = yPieces
        (arg7.view.readCov (xwPieces (fun g => View.ld (View.read (Elt F) arg2.view (harg2.unread x1)) (gRect g))) xRect.toLoadRect)
        (fun b g => View.ld (View.read (Elt F) arg1.view (harg1.unread x0)) (sRect i b g) (Shape.Idx.first (s := S1x1) (by decide)))
        fun b g => View.ld (View.read (Elt F) arg3.view (harg3.unread x2)) (wRect b g))).trans ?_
      · rfl
      · rw [hf0, hf1, hf2]
        exact (congrArg (fun z => View.read (Elt F) arg4.view (arg4.view.writes (Elt F) f3 (yPieces z _ _)))
          (View.readCov_eq_canon_ld arg7.view _ xRect (cover_xw _))).trans (View.read_writes_eq_canon _ _ _ (cover_y _ _ _))
    isplitl [H4]
    · iexists _; isplitr; swap; · iexact H4
      ipureintro
      refine (congrArg (fun L => View.read (Elt F) arg5.view (arg5.view.writes (Elt F) f4 L)) (?_ : _ = codePieces (fun g => View.ld (View.read (Elt F) arg2.view (harg2.unread x1)) (gRect g)))).trans ?_
      · rfl
      · rw [hf1]
        exact View.read_writes_eq_canon _ _ _ (cover_code _)
    isplitl [H5]
    · iexists _; isplitr; swap; · iexact H5
      ipureintro
      refine (congrArg (fun L => View.read (Elt F) arg6.view (arg6.view.writes (Elt F) f5 L)) (?_ : _ = [⟨Rect.unit (s := S12x1x256) ![0, 0, 0] S12x1x256.size inb_S12x1x256_S12x1x256_0_0_0, scaleOut fun g => qScale (View.ld (View.read (Elt F) arg2.view (harg2.unread x1)) (gRect g))⟩])).trans ?_
      · rfl
      · rw [hf1]
        exact View.read_writes_eq_canon _ _ _ (View.cover_of_tiled _ S12x1x256.size rfl)
    iexists _; isplitr; swap; · iexact HS0
    ipureintro
    refine (congrArg (fun L => View.read (Elt F) arg7.view (arg7.view.writes (Elt F) fs0 L)) (?_ : _ = xwPieces (fun g => View.ld (View.read (Elt F) arg2.view (harg2.unread x1)) (gRect g)))).trans ?_
    · rfl
    · rw [hf1]
      exact View.read_writes_eq_canon _ _ _ (cover_xw _)

end Cert.Kernel.Hand

end
-- ==== Proof.Origin.BodyB.lean ====
module

public import proofs.«01_k».proof.Proof.Gen.Kernel.Frame
public import proofs.«01_k».proof.Proof.Origin.Spec

/-! The kernel's body at a later grid step: it stores the step's columns of the product and leaves the codes, the scales
and the dequantised activations as they are. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4312000 in
/-- The body where the step is not the first: only the product's buffer changes. -/
theorem runB (c : Dev nD) (i : grid0.Coords) (arg1 : Memref sig .tc .smem S12x192 .f32) (harg1 : arg1.IsWhole) (arg2 : Memref sig .tc .vmem S256x1536 .bf16) (harg2 : arg2.IsWhole) (arg3 : Memref sig .tc .vmem S2048x1536 .fp8e4m3) (harg3 : arg3.IsWhole) (arg4 : Memref sig .tc .vmem S256x2048 .bf16) (harg4 : arg4.IsWhole) (arg5 : Memref sig .tc .vmem S256x1536 .fp8e4m3) (harg5 : arg5.IsWhole) (arg6 : Memref sig .tc .vmem S12x1x256 .f32) (harg6 : arg6.IsWhole) (arg7 : Memref sig .tc .vmem S256x1536 .bf16) (harg7 : arg7.IsWhole) (hc0 : ¬ k0_cond1 i = 1#1)
    (x0 : Vec F S12x192 .f32) (x2 : Vec F S2048x1536 .fp8e4m3) (xs : Vec F S256x1536 .bf16) :
      ∀ (E : Set ℕ) (K : PUnit → sProp 𝕄),
        iprop(owns (c : Thread nD τ) arg1 fullShare x0 ∗ owns (c : Thread nD τ) arg3 fullShare x2 ∗ (∃ d, owns (c : Thread nD τ) arg4 fullShare d) ∗ owns (c : Thread nD τ) arg7 fullShare xs
            ∗ (iprop(owns (c : Thread nD τ) arg1 fullShare x0 ∗ owns (c : Thread nD τ) arg3 fullShare x2 ∗ owns (c : Thread nD τ) arg4 fullShare (yOf i x0 x2 xs) ∗ owns (c : Thread nD τ) arg7 fullShare xs) -∗ K ⟨⟩))
          ⊢ wp frame (wpE (defs₀ (F := F)) Variants.none c none) E (cc0_fp8_block_linear i arg1 harg1 arg2 harg2 arg3 harg3 arg4 harg4 arg5 harg5 arg6 harg6 arg7 harg7) K := by
    intro E K
    simp only [cc0_fp8_block_linear_eq_skeleton]; unfold cc0_fp8_block_linear_skel
    simp only [k0_part76_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton]
    unfold owns
    iintro ⟨⟨%f0, %hf0, H0⟩, ⟨%f2, %hf2, H2⟩, ⟨%d3, %f3, -, H3⟩, ⟨%fs0, %hfs0, HS0⟩, Hk⟩
    obtain rfl := harg1.eq_unread hf0; obtain rfl := harg3.eq_unread hf2; obtain rfl := harg7.eq_unread hfs0
    sl_exec (disch := first | sl_exact hc0)
    sl_step
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; swap; · iexact H3
      ipureintro
      refine (congrArg (fun L => View.read (Elt F) arg4.view (arg4.view.writes (Elt F) f3 L)) (?_ : _ = yPieces
        (View.ld (View.read (Elt F) arg7.view (harg7.unread xs)) xRect)
        (fun b g => View.ld (View.read (Elt F) arg1.view (harg1.unread x0)) (sRect i b g) (Shape.Idx.first (s := S1x1) (by decide)))
        fun b g => View.ld (View.read (Elt F) arg3.view (harg3.unread x2)) (wRect b g))).trans ?_
      · rfl
      · rw [hf0, hf2, hfs0]
        exact View.read_writes_eq_canon _ _ _ (cover_y _ _ _)
    iexists _; isplitr; · ipureintro; exact harg7.read_unread _
    iexact HS0

end Cert.Kernel.Hand

end
-- ==== Proof.Origin.Run.lean ====
module

public import proofs.«01_k».proof.Proof.Origin.BodyA
public import proofs.«01_k».proof.Proof.Origin.BodyB
public import Idealize.ShloMosaic.Lib.Claim

/-! The run of the whole program: what every staging buffer and the scratch hold point by point, the body's
obligation, and the run to the named contents of all outputs. Generic in the float model. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The branch, the staging memrefs, the scratch -/

/-- The branch of the body, as a proposition. -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Each window's current staging memref at point `t`, spelled as the pipeline passes it (`bodyAt0`), and its wholeness. -/
abbrev ms0_0 (t : Fin cfg0.N) : Memref sig .tc .smem S12x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1536 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1536 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x1536 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-! ### The proof data -/

/-- The first grid point. -/
def t0 : Fin cfg0.N := ⟨0, by rw [show cfg0.N = 12 from N_0]; decide⟩

/-- The activations, as the window stages them (the same block at every point). -/
def xin (c : Dev nD) : Vec F S256x1536 .bf16 := iblk m c 1 t0

/-- What is carried before point `n`: the scratch at anything before the first point, at the dequantised
    activations after it; the generator's register at anything. -/
def PhiAt (c : Dev nD) : ℕ → sProp 𝕄
  | 0 => Pipeline.ΦA spec0 c
  | _ + 1 => iprop(owns (c : Thread nD τ) scM0_0 fullShare (xwOf (xin m c)) ∗ (∃ r, prngReg c r))

/-- The contents of every staging buffer after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOf (grid0.coords t) (iblk m c 0 t) (iblk m c 2 t) (xwOf (xin m c))
    | ⟨4, _⟩ => codesOf (xin m c)
    | ⟨5, _⟩ => scaleOf (xin m c)
  Φ t := PhiAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = yOf (grid0.coords t) (iblk m c 0 t) (iblk m c 2 t) (xwOf (xin m c)) := by dsimp only [dats]
theorem after0_4 (c : Dev nD) (t : Fin cfg0.N) : (dats m 0 c).after 4 t = codesOf (xin m c) := by dsimp only [dats]
theorem after0_5 (c : Dev nD) (t : Fin cfg0.N) : (dats m 0 c).after 5 t = scaleOf (xin m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle0_4 (t : Fin cfg0.N) : cfg0.idle 4 (grid0.coords t) = !(k0_cond1 (grid0.coords t) == 1#1) := rfl
theorem idle0_5 (t : Fin cfg0.N) : cfg0.idle 5 (grid0.coords t) = !(k0_cond1 (grid0.coords t) == 1#1) := rfl

/-- After the first point window 4's buffer holds what the first point left: no later point stores into it or writes
    it back before the last. -/
theorem before0_4 (c : Dev nD) : ∀ (n : ℕ) (h : n < cfg0.N), n ≠ 0 → ∀ d,
    (dats m 0 c).before 4 ⟨n, h⟩ d = codesOf (xin m c)
  | 0, _, h0, _ => absurd rfl h0
  | n + 1, h, _, d => by
    have hN : n + 1 < 12 := lt_of_lt_of_eq h (show cfg0.N = 12 from N_0)
    have hfl : (cfg0.win 4).flush ⟨n, Nat.lt_of_succ_lt h⟩ = false := by
      rw [Bool.eq_false_iff, ne_eq, flush0_4]; dsimp only; omega
    rw [(dats m 0 c).before_of_pos 4 ⟨n + 1, h⟩ (Nat.succ_ne_zero n) rfl d]
    refine (if_neg (by rw [Bool.not_eq_true]; exact hfl)).trans ?_
    unfold Dat.left
    have hid := idle0_4 ⟨n, Nat.lt_of_succ_lt h⟩
    by_cases hn : n = 0
    · subst hn
      rw [(hcond0_0 ⟨0, Nat.lt_of_succ_lt h⟩).mpr rfl] at hid
      have hid' : cfg0.idle 4 (cfg0.grid.coords ⟨0 + 1 - 1, Nat.lt_of_succ_lt h⟩) = false := hid
      rw [hid']
      show (dats m 0 c).kept 4 ⟨0 + 1 - 1, Nat.lt_of_succ_lt h⟩ d = codesOf (xin m c)
      unfold Dat.kept
      rw [after0_4]
      exact (Pipeline.fill_of_clip_none (cfg := cfg0) 4 (cfg0.grid.coords ⟨0 + 1 - 1, Nat.lt_of_succ_lt h⟩) (fun _ => rfl) d (codesOf (xin m c)) _).trans
        ((cfg0.win 4).fill_cut _ _)
    · have hc : ¬ k0_cond1 (grid0.coords ⟨n, Nat.lt_of_succ_lt h⟩) = 1#1 := fun hh => hn (by
        have := (hcond0_0 ⟨n, Nat.lt_of_succ_lt h⟩).mp hh; dsimp only at this; omega)
      rw [beq_false_of_ne hc] at hid
      have hid' : cfg0.idle 4 (cfg0.grid.coords ⟨n + 1 - 1, Nat.lt_of_succ_lt h⟩) = true := hid
      rw [hid']
      exact before0_4 c n _ hn d

/-- After the first point window 5's buffer holds what the first point left: no later point stores into it or writes
    it back before the last. -/
theorem before0_5 (c : Dev nD) : ∀ (n : ℕ) (h : n < cfg0.N), n ≠ 0 → ∀ d,
    (dats m 0 c).before 5 ⟨n, h⟩ d = scaleOf (xin m c)
  | 0, _, h0, _ => absurd rfl h0
  | n + 1, h, _, d => by
    have hN : n + 1 < 12 := lt_of_lt_of_eq h (show cfg0.N = 12 from N_0)
    have hfl : (cfg0.win 5).flush ⟨n, Nat.lt_of_succ_lt h⟩ = false := by
      rw [Bool.eq_false_iff, ne_eq, flush0_5]; dsimp only; omega
    rw [(dats m 0 c).before_of_pos 5 ⟨n + 1, h⟩ (Nat.succ_ne_zero n) rfl d]
    refine (if_neg (by rw [Bool.not_eq_true]; exact hfl)).trans ?_
    unfold Dat.left
    have hid := idle0_5 ⟨n, Nat.lt_of_succ_lt h⟩
    by_cases hn : n = 0
    · subst hn
      rw [(hcond0_0 ⟨0, Nat.lt_of_succ_lt h⟩).mpr rfl] at hid
      have hid' : cfg0.idle 5 (cfg0.grid.coords ⟨0 + 1 - 1, Nat.lt_of_succ_lt h⟩) = false := hid
      rw [hid']
      show (dats m 0 c).kept 5 ⟨0 + 1 - 1, Nat.lt_of_succ_lt h⟩ d = scaleOf (xin m c)
      unfold Dat.kept
      rw [after0_5]
      exact (Pipeline.fill_of_clip_none (cfg := cfg0) 5 (cfg0.grid.coords ⟨0 + 1 - 1, Nat.lt_of_succ_lt h⟩) (fun _ => rfl) d (scaleOf (xin m c)) _).trans
        ((cfg0.win 5).fill_cut _ _)
    · have hc : ¬ k0_cond1 (grid0.coords ⟨n, Nat.lt_of_succ_lt h⟩) = 1#1 := fun hh => hn (by
        have := (hcond0_0 ⟨n, Nat.lt_of_succ_lt h⟩).mp hh; dsimp only at this; omega)
      rw [beq_false_of_ne hc] at hid
      have hid' : cfg0.idle 5 (cfg0.grid.coords ⟨n + 1 - 1, Nat.lt_of_succ_lt h⟩) = true := hid
      rw [hid']
      exact before0_5 c n _ hn d

/-! ### The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A buffer of window 4 at the named contents is what the body may leave, at every point. -/
theorem leaves0_4 (c : Dev nD) (t : Fin cfg0.N) :
    owns (c : Thread nD τ) (ms0_4 t) fullShare ((dats m 0 c).after 4 t) ⊢ ((dats m 0 c).leavesExact 4 t : sProp 𝕄) := by
  unfold Dat.leavesExact
  have hid := idle0_4 t
  by_cases h0 : t.val % 12 = 0
  · rw [(hcond0_0 t).mpr h0] at hid
    have hid' : cfg0.idle 4 (cfg0.grid.coords t) = false := hid
    rw [hid']
  · have hc : ¬ k0_cond1 (grid0.coords t) = 1#1 := fun hh => h0 ((hcond0_0 t).mp hh)
    rw [beq_false_of_ne hc] at hid
    have hid' : cfg0.idle 4 (cfg0.grid.coords t) = true := hid
    rw [hid']
    cases hf : (cfg0.win 4).flush t
    · iintro H
      iexists ((dats m 0 c).after 4 t)
      rw [before0_4 m c t.val t.isLt (fun h => h0 (by rw [h])), after0_4]
      iexact H
    · exact .rfl

/-- A buffer of window 5 at the named contents is what the body may leave, at every point. -/
theorem leaves0_5 (c : Dev nD) (t : Fin cfg0.N) :
    owns (c : Thread nD τ) (ms0_5 t) fullShare ((dats m 0 c).after 5 t) ⊢ ((dats m 0 c).leavesExact 5 t : sProp 𝕄) := by
  unfold Dat.leavesExact
  have hid := idle0_5 t
  by_cases h0 : t.val % 12 = 0
  · rw [(hcond0_0 t).mpr h0] at hid
    have hid' : cfg0.idle 5 (cfg0.grid.coords t) = false := hid
    rw [hid']
  · have hc : ¬ k0_cond1 (grid0.coords t) = 1#1 := fun hh => h0 ((hcond0_0 t).mp hh)
    rw [beq_false_of_ne hc] at hid
    have hid' : cfg0.idle 5 (cfg0.grid.coords t) = true := hid
    rw [hid']
    cases hf : (cfg0.win 5).flush t
    · iintro H
      iexists ((dats m 0 c).after 5 t)
      rw [before0_5 m c t.val t.isLt (fun h => h0 (by rw [h])), after0_5]
      iexact H
    · exact .rfl

theorem Phi_zero (c : Dev nD) (t : Fin cfg0.N) (h : t.val = 0) : (dats m 0 c).Φ t.castSucc
    = iprop(iprop((∃ d, owns (c : Thread nD τ) scM0_0 fullShare d)) ∗ (∃ r, prngReg c r)) := by
  rw [← PhiA0_eq]
  show PhiAt m c t.val = _
  rw [h]; rfl

theorem Phi_pos (c : Dev nD) (t : Fin cfg0.N) (h : t.val ≠ 0) : (dats m 0 c).Φ t.castSucc
    = iprop(owns (c : Thread nD τ) scM0_0 fullShare (xwOf (xin m c)) ∗ (∃ r, prngReg c r)) := by
  show PhiAt m c t.val = _
  obtain ⟨n, hn⟩ := Nat.exists_eq_succ_of_ne_zero h
  rw [hn]; rfl

theorem Phi_succ (c : Dev nD) (t : Fin cfg0.N) : (dats m 0 c).Φ t.succ
    = iprop(owns (c : Thread nD τ) scM0_0 fullShare (xwOf (xin m c)) ∗ (∃ r, prngReg c r)) := rfl

set_option maxHeartbeats 800000 in
/-- The body at any point: the first point's run where the branch holds, the other's elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_succ, show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [show cfg0.idle 3 (cfg0.grid.coords t) = false from rfl], after0_3]
  have hN : t.val < 12 := lt_of_lt_of_eq t.isLt (show cfg0.N = 12 from N_0)
  by_cases h0 : t.val % 12 = 0
  · have ht : t = t0 := Fin.ext (by show t.val = 0; omega)
    rw [Phi_zero m c t (by omega)]
    iintro ⟨⟨HS0, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    rw [show (iblk m c 1 t : Vec F S256x1536 .bf16) = xin m c from by subst ht; rfl]
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · iapply (leaves0_4 m c t); rw [after0_4]; iexact H4
    iapply (leaves0_5 m c t); rw [after0_5]; iexact H5
  · have ht : t.val ≠ 0 := fun h => h0 (by rw [h])
    rw [Phi_pos m c t ht]
    simp only [before0_4 m c t.val t.isLt ht, before0_5 m c t.val t.isLt ht]
    iintro ⟨⟨HS0, Hg⟩, Ho, ⟨%d0, H0⟩, ⟨%d1, H1⟩, ⟨%d2, H2⟩, ⟨%d3, H3⟩, ⟨%d4, H4⟩, ⟨%d5, H5⟩⟩
    iapply (runB c (grid0.coords t) _ _ _ (hs0_1 t) _ _ _ _ _ (hs0_4 t) _ (hs0_5 t) _ _ (fun h => h0 ((hcond0_0 t).mp h)) (iblk m c 0 t) (iblk m c 2 t) (xwOf (xin m c)) Set.univ _)
    isplitl [H0]; · iexact H0
    isplitl [H2]; · iexact H2
    isplitl [H3]; · iexists _; iexact H3
    isplitl [HS0]; · iexact HS0
    iintro ⟨H0, H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · iapply (leaves0_4 m c t); rw [after0_4]; iexact H4
    iapply (leaves0_5 m c t); rw [after0_5]; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_out (c : Dev nD) : (dats m 0 c).Φ (Fin.last cfg0.N) ⊢ (Pipeline.ΦA spec0 c : sProp 𝕄) := by
  rw [PhiA0_eq]
  show PhiAt m c cfg0.N ⊢ _
  rw [show cfg0.N = 11 + 1 from N_0]
  show iprop(owns (c : Thread nD τ) scM0_0 fullShare (xwOf (xin m c)) ∗ (∃ r, prngReg c r)) ⊢ _
  iintro ⟨H, Hg⟩
  isplitl [H]
  · iexists _; iexact H
  iexact Hg

/-! ### The run and the frame -/

set_option backward.isDefEq.respectTransparency.types false in
set_option maxHeartbeats 800000 in
/-- Every execution ends with the pipeline's arrays at their named contents, the later lines' results computed from
    them, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := Phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.Scalar.lean ====
module

public import Idealize.ShloMosaic.Lib.Pointwise

/-! The exponent of a scale, on one extended real: the kernel finds the exponent field of a float by a binary search
over words read as floats, the reference takes the least exponent whose power of two exceeds the value. Both give
the same power of two, and the same reciprocal. -/

@[expose] public section

set_option maxRecDepth 16384
set_option exponentiation.threshold 600

noncomputable section

namespace Cert.Scale

open Idealize.ShloMosaic

/-! ### The float whose exponent field is a given word -/

/-- The float of exponent field `f` and no fraction. -/
def ofField (f : BitVec 32) : EReal := Ideal.ofBits .f32 (IntOp.shli .vector f 23#32)

/-- The three parts of the word `n · 2²³`. -/
theorem field_parts : ∀ n : Fin 256,
    (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

theorem ofField_zero : ofField (BitVec.ofNat 32 0) = 0 := by
  obtain ⟨h1, h2, h3⟩ := field_parts ⟨0, by decide⟩
  dsimp only at h1 h2 h3
  unfold ofField
  simp [Ideal.ofBits, Ideal.ieee, h1, h2, h3]

theorem ofField_top : ofField (BitVec.ofNat 32 255) = ⊤ := by
  obtain ⟨h1, h2, h3⟩ := field_parts ⟨255, by decide⟩
  dsimp only at h1 h2 h3
  unfold ofField
  simp only [Ideal.ofBits, Ideal.ieee, h1, h2, h3]
  norm_num

theorem ofField_nat (n : ℕ) (h0 : 1 ≤ n) (h1 : n ≤ 254) :
    ofField (BitVec.ofNat 32 n) = (((2 : ℝ) ^ ((n : ℤ) - 127) : ℝ) : EReal) := by
  obtain ⟨p1, p2, p3⟩ := field_parts ⟨n, by omega⟩
  dsimp only at p1 p2 p3
  unfold ofField
  simp only [Ideal.ofBits, Ideal.ieee, p1, p2, p3]
  rw [if_neg (by norm_num; omega), if_neg (by omega)]
  refine congrArg Real.toEReal ?_
  rw [show ((n : ℤ) - 127) = 23 + ((n : ℤ) - (2 ^ (8 - 1) - 1) - (23 : ℕ)) by norm_num, zpow_add₀ (by norm_num)]
  push_cast
  norm_num

/-! ### The binary search -/

/-- One step: the bit `b` is kept when the value reaches the float of the larger field. -/
def step (v : EReal) (b f : BitVec 32) : BitVec 32 := if ofField (f + b) ≤ v then f + b else f

/-- The eight steps. -/
def field (v : EReal) : BitVec 32 :=
  step v 1#32 (step v 2#32 (step v 4#32 (step v 8#32 (step v 16#32 (step v 32#32 (step v 64#32 (step v 128#32 0#32)))))))

/-- The value lies from the float of field `n` up to the float `w` fields further. -/
def Between (v : EReal) (w : ℕ) (f : BitVec 32) : Prop :=
  ∃ n : ℕ, f = BitVec.ofNat 32 n ∧ n + w ≤ 256 ∧ ofField (BitVec.ofNat 32 n) ≤ v
    ∧ (n + w = 256 ∨ v < ofField (BitVec.ofNat 32 (n + w)))

theorem between_step (v : EReal) (b : ℕ) (f : BitVec 32) (h : Between v (b + b) f) : Between v b (step v (BitVec.ofNat 32 b) f) := by
  obtain ⟨n, rfl, h1, h2, h3⟩ := h
  unfold step
  rw [show BitVec.ofNat 32 n + BitVec.ofNat 32 b = BitVec.ofNat 32 (n + b) from BitVec.eq_of_toNat_eq (by simp [BitVec.toNat_add])]
  by_cases hc : ofField (BitVec.ofNat 32 (n + b)) ≤ v
  · rw [if_pos hc]
    exact ⟨n + b, rfl, by omega, hc, by rw [add_assoc]; exact h3⟩
  · rw [if_neg hc]
    exact ⟨n, rfl, by omega, h2, .inr (lt_of_not_ge hc)⟩

theorem between_field (v : EReal) (h : 0 ≤ v) : Between v 1 (field v) := by
  have h0 : Between v (128 + 128) 0#32 := ⟨0, rfl, le_refl _, by rw [ofField_zero]; exact h, .inl rfl⟩
  exact between_step v 1 _ (between_step v 2 _ (between_step v 4 _ (between_step v 8 _ (between_step v 16 _
    (between_step v 32 _ (between_step v 64 _ (between_step v 128 _ h0)))))))

/-! ### The exponent -/

/-- The exponent of a field, zero outside the normal numbers. -/
def expoOf (f : BitVec 32) : BitVec 32 :=
  Scalar.select (IntOp.andi (IntOp.cmpi .sgt f 0#32) (IntOp.cmpi .slt f 255#32)) (f - 126#32) 0#32

/-- The words of the exponent and of its negation, biased again: those of the scale and of its reciprocal. -/
theorem expoOf_words : ∀ n : Fin 247, 1 ≤ n.val →
    expoOf (BitVec.ofNat 32 n.val) + 127#32 = BitVec.ofNat 32 (n.val + 1)
    ∧ (0#32 - expoOf (BitVec.ofNat 32 n.val)) + 127#32 = BitVec.ofNat 32 (253 - n.val) := by
  decide +kernel

theorem expoOf_zero : expoOf (BitVec.ofNat 32 0) = 0#32 := by decide +kernel

/-- `e` is the exponent the quantiser means for `v`: `2^(e-1) ≤ v < 2^e`, and zero when `v` is below every normal number. -/
def IsExp (v : EReal) (e : ℤ) : Prop :=
  -125 ≤ e ∧ e ≤ 120 ∧ ((v < (((2 : ℝ) ^ (-126 : ℤ) : ℝ) : EReal) ∧ e = 0)
    ∨ ((((2 : ℝ) ^ (e - 1) : ℝ) : EReal) ≤ v ∧ v < (((2 : ℝ) ^ e : ℝ) : EReal)))

theorem two_zpow_lt {a b : ℤ} : (((2 : ℝ) ^ a : ℝ) : EReal) < (((2 : ℝ) ^ b : ℝ) : EReal) ↔ a < b := by
  rw [EReal.coe_lt_coe_iff, zpow_lt_zpow_iff_right₀ (by norm_num)]

/-- Below `2^120` the kernel's words hold the powers of two of an exponent `e` and of `-e`. -/
theorem exists_isExp (v : EReal) (h0 : 0 ≤ v) (h1 : v < (((2 : ℝ) ^ (120 : ℤ) : ℝ) : EReal)) :
    ∃ e : ℤ, IsExp v e ∧ ofField (expoOf (field v) + 127#32) = (((2 : ℝ) ^ e : ℝ) : EReal)
      ∧ ofField ((0#32 - expoOf (field v)) + 127#32) = (((2 : ℝ) ^ (-e) : ℝ) : EReal) := by
  obtain ⟨n, hf, hn, hlo, hhi⟩ := between_field v h0
  rw [hf]
  rcases Nat.eq_zero_or_pos n with rfl | hpos
  · refine ⟨0, ⟨by norm_num, by norm_num, .inl ⟨?_, rfl⟩⟩, ?_, ?_⟩
    · rcases hhi with h | h
      · omega
      · rw [ofField_nat _ (by omega) (by omega)] at h
        exact h
    · rw [expoOf_zero]
      exact (ofField_nat 127 (by omega) (by omega)).trans (by norm_num)
    · rw [expoOf_zero]
      exact (ofField_nat 127 (by omega) (by omega)).trans (by norm_num)
  · have hn' : n < 247 := by
      by_contra hc
      rcases Nat.lt_or_ge n 255 with h | h
      · rw [ofField_nat n hpos (by omega)] at hlo
        have := two_zpow_lt.mp (lt_of_le_of_lt hlo h1)
        omega
      · rw [show n = 255 by omega, ofField_top] at hlo
        exact absurd (lt_of_le_of_lt hlo h1) (not_lt_of_ge le_top)
    obtain ⟨w1, w2⟩ := expoOf_words ⟨n, hn'⟩ hpos
    dsimp only at w1 w2
    refine ⟨(n : ℤ) - 126, ⟨by omega, by omega, .inr ⟨?_, ?_⟩⟩, ?_, ?_⟩
    · rw [ofField_nat n hpos (by omega)] at hlo
      rwa [show (n : ℤ) - 126 - 1 = n - 127 by ring]
    · rcases hhi with h | h
      · omega
      · rw [ofField_nat (n + 1) (by omega) (by omega)] at h
        rwa [show (n : ℤ) - 126 = ((n + 1 : ℕ) : ℤ) - 127 by push_cast; ring]
    · rw [w1, ofField_nat (n + 1) (by omega) (by omega)]
      rw [show (n : ℤ) - 126 = ((n + 1 : ℕ) : ℤ) - 127 by push_cast; ring]
    · rw [w2, ofField_nat (253 - n) (by omega) (by omega)]
      rw [show -((n : ℤ) - 126) = ((253 - n : ℕ) : ℤ) - 127 by rw [Nat.cast_sub (by omega)]; push_cast; ring]

/-! ### The reference's exponent -/

theorem pow_two_int (e : ℤ) : Ideal.pow ((2 : ℝ) : EReal) (((e : ℤ) : ℝ) : EReal) = (((2 : ℝ) ^ e : ℝ) : EReal) := by
  show ((Real.rpow 2 (e : ℝ) : ℝ) : EReal) = _
  rw [show Real.rpow 2 (e : ℝ) = (2 : ℝ) ^ (e : ℝ) from rfl, Real.rpow_intCast]

/-- The exponents the reference tries. -/
def tried (k : Fin 253) : EReal := (((BitVec.toInt (4294967171#32 + BitVec.ofNat 32 k.val) : ℤ) : ℝ) : EReal)

theorem tried_toInt : ∀ k : Fin 253, BitVec.toInt (4294967171#32 + BitVec.ofNat 32 k.val) = (k.val : ℤ) - 125 := by
  decide +kernel

/-- The least tried exponent whose power of two exceeds the value. -/
def least (v : EReal) : EReal :=
  Finset.univ.fold min ⊤ fun k : Fin 253 => if v < Ideal.pow ((2 : ℝ) : EReal) (tried k) then tried k else ((128 : ℝ) : EReal)

/-- The least exponent tried whose power of two exceeds `v`. -/
theorem least_eq (v : EReal) (e : ℤ) (h0 : -125 ≤ e) (h1 : e ≤ 120) (hlo : (((2 : ℝ) ^ (e - 1) : ℝ) : EReal) ≤ v)
    (hhi : v < (((2 : ℝ) ^ e : ℝ) : EReal)) : least v = (((e : ℤ) : ℝ) : EReal) := by
  unfold least tried
  simp only [tried_toInt, pow_two_int]
  apply le_antisymm
  · rw [Finset.fold_min_le]
    refine .inr ⟨⟨(e + 125).toNat, by omega⟩, Finset.mem_univ _, ?_⟩
    have : (((e + 125).toNat : ℕ) : ℤ) - 125 = e := by omega
    dsimp only
    rw [this, if_pos hhi]
  · rw [Finset.le_fold_min]
    refine ⟨le_top, fun k _ => ?_⟩
    by_cases hk : v < (((2 : ℝ) ^ ((k.val : ℤ) - 125) : ℝ) : EReal)
    · rw [if_pos hk, EReal.coe_le_coe_iff, Int.cast_le]
      have := two_zpow_lt.mp (lt_of_le_of_lt hlo hk)
      omega
    · rw [if_neg hk, EReal.coe_le_coe_iff]
      exact_mod_cast (by omega : e ≤ 128)

/-! ### The quantised product, as functions of the arguments' entries -/

/-- The largest magnitude of a group. -/
def peak (f : Fin 128 → EReal) : EReal :=
  Finset.univ.fold max (Ideal.ofBits .f32 0xFF800000#32) fun k => FloatOps.absf (F := Ideal) (φ := .f32) (f k)

/-- The largest magnitude against the largest code. -/
def ratio (f : Fin 128 → EReal) : EReal := peak f * Ideal.ofBits .f32 0x3B124925#32

/-- The scale and its reciprocal as the kernel computes them, from the ratio. -/
def scaleOf (v : EReal) : EReal := ofField (expoOf (field v) + 127#32)
def invOf (v : EReal) : EReal := ofField ((0#32 - expoOf (field v)) + 127#32)

/-- The exponent as the reference computes it: zero for an all-zero group and for a ratio below the normal numbers. -/
def refExp (f : Fin 128 → EReal) : EReal :=
  if peak f = 0 then 0 else if ratio f < Ideal.ofBits .f32 0x00800000#32 then 0 else least (ratio f)

/-- Column `k` of group `g`. -/
def col (g : Fin 12) (k : Fin 128) : Fin 1536 := ⟨128 * g.val + k.val, by omega⟩

/-- The group of a column. -/
def grp (c : Fin 1536) : Fin 12 := ⟨c.val / 128, by omega⟩

/-- The row block of a row of the weights. -/
def rowBlk (n : Fin 24576) : Fin 192 := ⟨n.val / 128, by omega⟩

theorem grp_col (g : Fin 12) (k : Fin 128) : grp (col g k) = g := Fin.ext (by simp only [grp, col]; omega)

/-- The ratio of group `g` of row `r`. -/
def ratioAt (X : Fin 256 → Fin 1536 → EReal) (r : Fin 256) (g : Fin 12) : EReal := ratio fun k => X r (col g k)

/-- A code, from the reciprocals of the scales. -/
def code (inv : Fin 256 → Fin 12 → EReal) (X : Fin 256 → Fin 1536 → EReal) (r : Fin 256) (c : Fin 1536) : EReal :=
  min (Ideal.ofBits .f32 0x43E00000#32) (max (Ideal.ofBits .f32 0xC3E00000#32) (X r c * inv r (grp c)))

/-- An entry of the product of the dequantised activations with the dequantised weights. -/
def prod (sc inv : Fin 256 → Fin 12 → EReal) (X : Fin 256 → Fin 1536 → EReal) (W : Fin 24576 → Fin 1536 → EReal)
    (S : Fin 192 → Fin 12 → EReal) (r : Fin 256) (n : Fin 24576) : EReal :=
  ∑ k : Fin 1536, code inv X r k * sc r (grp k) * (W n k * S (rowBlk n) (grp k))

end Cert.Scale

end
-- ==== Proof.KPoint.lean ====
module

public import proofs.«01_k».proof.Proof.Spec
public import proofs.«01_k».proof.Proof.Scalar
public import Idealize.ShloMosaic.Lib.Pipeline.ValueKit

/-! What a grid step of the kernel stores, entry by entry, with floats as extended reals. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ### The group quantiser -/

theorem qMax_at (xg : FVec Ideal S256x128 .bf16) (r : Fin 256) :
    qMax (F := Ideal) xg (ix2 r 0) = Cert.Scale.ratio fun k => xg (ix2 r k) := by
  pointwise [qMax]
  rfl

theorem qStep_at (v : FVec Ideal S256x1 .f32) (b : BitVec 32) (f : IVec S256x1 32) (r : Fin 256) :
    qStep (F := Ideal) v b f (ix2 r 0) = Cert.Scale.step (v (ix2 r 0)) b (f (ix2 r 0)) := by
  pointwise [qStep]
  rfl

theorem qField_at (v : FVec Ideal S256x1 .f32) (r : Fin 256) :
    qField (F := Ideal) v (ix2 r 0) = Cert.Scale.field (v (ix2 r 0)) := by
  unfold qField Cert.Scale.field
  simp only [qStep_at]
  rfl

theorem qExp_at (xg : FVec Ideal S256x128 .bf16) (r : Fin 256) :
    qExp (F := Ideal) xg (ix2 r 0) = Cert.Scale.expoOf (Cert.Scale.field (Cert.Scale.ratio fun k => xg (ix2 r k))) := by
  rw [← qMax_at, ← qField_at]
  rfl

theorem qScale_at (xg : FVec Ideal S256x128 .bf16) (r : Fin 256) :
    qScale (F := Ideal) xg (ix2 r 0) = Cert.Scale.scaleOf (Cert.Scale.ratio fun k => xg (ix2 r k)) := by
  unfold Cert.Scale.scaleOf
  rw [← qExp_at]
  rfl

theorem qInv_at (xg : FVec Ideal S256x128 .bf16) (r : Fin 256) :
    pow2 (F := Ideal) (subi (broadcast S256x1 0#32) (qExp (F := Ideal) xg)) (ix2 r 0)
      = Cert.Scale.invOf (Cert.Scale.ratio fun k => xg (ix2 r k)) := by
  unfold Cert.Scale.invOf
  rw [← qExp_at]
  rfl

theorem qCodes_at (xg : FVec Ideal S256x128 .bf16) (r : Fin 256) (k : Fin 128) :
    qCodes (F := Ideal) xg (ix2 r k) = min (Ideal.ofBits .f32 0x43E00000#32) (max (Ideal.ofBits .f32 0xC3E00000#32)
      (xg (ix2 r k) * Cert.Scale.invOf (Cert.Scale.ratio fun k => xg (ix2 r k)))) := by
  pointwise [qCodes]
  rw [qInv_at]

theorem qXw_at (xg : FVec Ideal S256x128 .bf16) (r : Fin 256) (k : Fin 128) :
    qXw (F := Ideal) xg (ix2 r k) = (show EReal from qCodes (F := Ideal) xg (ix2 r k)) * Cert.Scale.scaleOf (Cert.Scale.ratio fun k => xg (ix2 r k)) := by
  pointwise [qXw]
  rw [qScale_at]

theorem scaleOut_at (s : Fin 12 → FVec Ideal S256x1 .f32) (r : Fin 256) (g : Fin 12) :
    scaleOut (F := Ideal) s (ix3 g 0 r) = s g (ix2 r 0) := by
  pointwise [scaleOut, lanes, lane]
  fin_cases g <;> rfl

/-! ### The whole activations -/

/-- The columns of one group. -/
def blkG (x1 : FVec Ideal S256x1536 .bf16) (g : Fin 12) : FVec Ideal S256x128 .bf16 :=
  View.ld (Val := Elt Ideal) (e' := .bf16) x1 (gRect g)

theorem blkG_at (x1 : FVec Ideal S256x1536 .bf16) (g : Fin 12) (r : Fin 256) (k : Fin 128) :
    blkG x1 g (ix2 r k) = x1 (ix2 r (Cert.Scale.col g k)) := by
  refine View.ld_unit_apply_of (Val := Elt Ideal) (e := .bf16) x1 _ _ _ _ _ fun a => ?_
  fin_cases a
  · show r.val = 0 + r.val; omega
  · rfl

/-- The entries of a two-axis array. -/
abbrev ent (x1 : FVec Ideal S256x1536 .bf16) (r : Fin 256) (c : Fin 1536) : EReal := x1 (ix2 r c)

theorem ratio_g (x1 : FVec Ideal S256x1536 .bf16) (g : Fin 12) (r : Fin 256) :
    (Cert.Scale.ratio fun k => blkG x1 g (ix2 r k)) = Cert.Scale.ratioAt (ent x1) r g := by
  simp only [blkG_at]
  rfl

theorem emb_g (g : Fin 12) (r : Fin 256) (k : Fin 128) : (gRect g).emb (ix2 r k : S256x128.Idx) = ix2 r (Cert.Scale.col g k) := by
  funext a
  apply Fin.ext
  refine (Rect.idx_unit_val _ _ _ _ a).trans ?_
  fin_cases a
  · show 0 + r.val = r.val; omega
  · rfl

/-- The reciprocals the kernel multiplies by. -/
abbrev kInv (x1 : FVec Ideal S256x1536 .bf16) (r : Fin 256) (g : Fin 12) : EReal := Cert.Scale.invOf (Cert.Scale.ratioAt (ent x1) r g)

/-- The scales the kernel stores. -/
abbrev kSc (x1 : FVec Ideal S256x1536 .bf16) (r : Fin 256) (g : Fin 12) : EReal := Cert.Scale.scaleOf (Cert.Scale.ratioAt (ent x1) r g)

theorem codes_g (x1 : FVec Ideal S256x1536 .bf16) (g : Fin 12) (a : Fin 256) (b : Fin 128) :
    qCodes (F := Ideal) (blkG x1 g) (ix2 a b) = Cert.Scale.code (kInv x1) (ent x1) a (Cert.Scale.col g b) := by
  refine (qCodes_at _ a b).trans ?_
  rw [ratio_g, blkG_at]
  unfold Cert.Scale.code
  rw [Cert.Scale.grp_col]

theorem xw_g (x1 : FVec Ideal S256x1536 .bf16) (g : Fin 12) (a : Fin 256) (b : Fin 128) :
    qXw (F := Ideal) (blkG x1 g) (ix2 a b) = Cert.Scale.code (kInv x1) (ent x1) a (Cert.Scale.col g b)
      * kSc x1 a (Cert.Scale.grp (Cert.Scale.col g b)) := by
  refine (qXw_at _ a b).trans ?_
  rw [ratio_g, codes_g, Cert.Scale.grp_col]

theorem codesOf_at (x1 : FVec Ideal S256x1536 .bf16) (r : Fin 256) (c : Fin 1536) :
    codesOf (F := Ideal) x1 (ix2 r c) = Cert.Scale.code (kInv x1) (ent x1) r c := by
  refine View.canon_apply_of_pieces (Val := Elt Ideal) (S := S256x1536) (e := .fp8e4m3)
    (fun j => Cert.Scale.code (kInv x1) (ent x1) (j 0) (j 1)) _ ?_ (ix2 r c) (cover_code _ _)
  intro p hp x
  obtain ⟨g, -, rfl⟩ := List.mem_map.mp hp
  obtain ⟨a, b, rfl⟩ : ∃ (a : Fin 256) (b : Fin 128), x = (ix2 a b : S256x128.Idx) := ⟨x 0, x 1, eq_ix2 x⟩
  refine (codes_g x1 g a b).trans ?_
  dsimp only
  rw [emb_g]
  rfl

theorem xwOf_at (x1 : FVec Ideal S256x1536 .bf16) (r : Fin 256) (c : Fin 1536) :
    xwOf (F := Ideal) x1 (ix2 r c) = Cert.Scale.code (kInv x1) (ent x1) r c * kSc x1 r (Cert.Scale.grp c) := by
  refine View.canon_apply_of_pieces (Val := Elt Ideal) (S := S256x1536) (e := .bf16)
    (fun j => Cert.Scale.code (kInv x1) (ent x1) (j 0) (j 1) * kSc x1 (j 0) (Cert.Scale.grp (j 1))) _ ?_ (ix2 r c) (cover_xw _ _)
  intro p hp x
  obtain ⟨g, -, rfl⟩ := List.mem_map.mp hp
  obtain ⟨a, b, rfl⟩ : ∃ (a : Fin 256) (b : Fin 128), x = (ix2 a b : S256x128.Idx) := ⟨x 0, x 1, eq_ix2 x⟩
  refine (xw_g x1 g a b).trans ?_
  dsimp only
  rw [emb_g]
  rfl

theorem scaleOf_at (x1 : FVec Ideal S256x1536 .bf16) (r : Fin 256) (g : Fin 12) :
    scaleOf (F := Ideal) x1 (ix3 g 0 r) = kSc x1 r g := by
  refine Eq.trans ?_ (congrArg Cert.Scale.scaleOf (ratio_g x1 g r))
  refine Eq.trans ?_ (qScale_at _ r)
  refine Eq.trans ?_ (scaleOut_at (fun g => qScale (F := Ideal) (blkG x1 g)) r g)
  unfold scaleOf
  exact congrFun (View.canon_cons_unit_lit (Val := Elt Ideal) _ _ _ (by decide)) _

end Cert.KernelIdeal.Hand
end
-- ==== Proof.KProduct.lean ====
module

public import proofs.«01_k».proof.Proof.KPoint

/-! The product's tiles of a grid step, entry by entry, with floats as extended reals. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem wsub_at (s : Elt Ideal .f32) (v : FVec Ideal S128x128 .fp8e4m3) (n k : Fin 128) :
    wsub (F := Ideal) s v (ix2 n k) = (show EReal from v (ix2 n k)) * s := by
  pointwise [wsub]

theorem wrow_at (s : Fin 12 → Elt Ideal .f32) (v : Fin 12 → FVec Ideal S128x128 .fp8e4m3) (n : Fin 128) (g : Fin 12) (k : Fin 128) :
    wrow (F := Ideal) s v (ix2 n (Cert.Scale.col g k)) = (show EReal from v g (ix2 n k)) * s g := by
  have hk := k.isLt
  rw [← wsub_at]
  unfold wrow
  refine concatenate_ofFn_apply (t := S128x1536) (s₁ := S128x128) (N := 12) 1 (fun g => wsub (F := Ideal) (s g) (v g)) _ rfl 128 rfl (ix2 n (Cert.Scale.col g k)) g ?_ (ix2 n k) ?_ ?_
  · show (128 * g.val + k.val) / 128 = g.val; omega
  · show k.val = (128 * g.val + k.val) % 128; omega
  · intro b hb
    fin_cases b
    · rfl
    · exact absurd rfl hb

/-- Row `n` of tile `j`'s stacked blocks: row block `q`, row `n'`. -/
theorem ytile_left (xs : FVec Ideal S256x1536 .bf16) (a b : FVec Ideal S128x1536 .bf16) (r : Fin 256) (n : Fin 256) (n' : Fin 128)
    (h : n.val = n'.val) :
    ytile (F := Ideal) xs a b (ix2 r n) = ∑ k : Fin 1536, (show EReal from xs (ix2 r k)) * a (ix2 n' k) := by
  pointwise [ytile]
  refine Finset.sum_congr rfl fun k _ => ?_
  rw [dif_pos (by omega)]
  exact congrArg (fun q : Fin 128 => (show EReal from xs (ix2 r k)) * a (ix2 q k)) (Fin.ext h)

theorem ytile_right (xs : FVec Ideal S256x1536 .bf16) (a b : FVec Ideal S128x1536 .bf16) (r : Fin 256) (n : Fin 256) (n' : Fin 128)
    (h : n.val = 128 + n'.val) :
    ytile (F := Ideal) xs a b (ix2 r n) = ∑ k : Fin 1536, (show EReal from xs (ix2 r k)) * b (ix2 n' k) := by
  pointwise [ytile]
  refine Finset.sum_congr rfl fun k _ => ?_
  rw [dif_neg (by omega)]
  exact congrArg (fun q : Fin 128 => (show EReal from xs (ix2 r k)) * b (ix2 q k)) (Fin.ext (show n.val - 128 = n'.val by omega))

/-- An entry of a row of blocks, by its column. -/
theorem wrow_entry (s : Fin 12 → Elt Ideal .f32) (v : Fin 12 → FVec Ideal S128x128 .fp8e4m3) (n : Fin 128) (k : Fin 1536) (P : EReal)
    (h : (show EReal from v (Cert.Scale.grp k) (ix2 n ⟨k.val % 128, by omega⟩)) * s (Cert.Scale.grp k) = P) :
    wrow (F := Ideal) s v (ix2 n k) = P := by
  rw [← h, ← wrow_at]
  refine congrArg (fun q => wrow (F := Ideal) s v (ix2 n q)) (Fin.ext ?_)
  show k.val = 128 * (k.val / 128) + k.val % 128
  omega

/-- A block of the weights' block, by its entries. -/
theorem ld_w (x2 : FVec Ideal S2048x1536 .fp8e4m3) (b : Fin 16) (n : Fin 128) (k : Fin 1536) (row : Fin 2048) (h : row.val = 128 * b.val + n.val) :
    View.ld (Val := Elt Ideal) (e' := .fp8e4m3) x2 (wRect b (Cert.Scale.grp k)) (ix2 n ⟨k.val % 128, by omega⟩ : S128x128.Idx) = x2 (ix2 row k) := by
  refine View.ld_unit_apply_of (Val := Elt Ideal) (e := .fp8e4m3) x2 _ _ _ _ _ fun a => ?_
  fin_cases a
  · exact h
  · show k.val = 128 * (k.val / 128) + k.val % 128; omega

/-- The scale of a block. -/
theorem ld_s (i : grid0.Coords) (x0 : FVec Ideal S12x192 .f32) (b : Fin 16) (g : Fin 12) (q : Fin 192) (h : q.val = 16 * (i 0).val + b.val) :
    View.ld (Val := Elt Ideal) (e' := .f32) x0 (sRect i b g) (Shape.Idx.first (s := S1x1) (by decide)) = x0 (ix2 g q) := by
  refine View.ld_unit_apply_of (Val := Elt Ideal) (e := .f32) x0 _ _ _ _ _ fun a => ?_
  refine Eq.trans ?_ (congrArg (· + _) (congrFun (sOff_eq g i b) a).symm)
  fin_cases a
  · rfl
  · exact h

/-- The dequantised weight at a row of the step's block and a column. -/
theorem wrow_step (i : grid0.Coords) (x0 : FVec Ideal S12x192 .f32) (x2 : FVec Ideal S2048x1536 .fp8e4m3) (b : Fin 16) (n : Fin 128) (k : Fin 1536)
    (row : Fin 2048) (h : row.val = 128 * b.val + n.val) (q : Fin 192) (hq : q.val = 16 * (i 0).val + b.val) :
    wrow (F := Ideal) (fun g => View.ld (Val := Elt Ideal) (e' := .f32) x0 (sRect i b g) (Shape.Idx.first (s := S1x1) (by decide)))
      (fun g => View.ld (Val := Elt Ideal) (e' := .fp8e4m3) x2 (wRect b g)) (ix2 n k)
      = (show EReal from x2 (ix2 row k)) * x0 (ix2 (Cert.Scale.grp k) q) :=
  wrow_entry _ _ n k _ (by rw [ld_s i x0 b _ q hq]; exact congrArg (fun z : EReal => z * _) (ld_w x2 b n k row h))

theorem ld_x (xs : FVec Ideal S256x1536 .bf16) : View.ld (Val := Elt Ideal) (e' := .bf16) xs xRect = xs := by
  funext x
  refine View.ld_unit_apply_of (Val := Elt Ideal) (e := .bf16) xs _ _ _ _ _ fun a => ?_
  fin_cases a <;> exact (Nat.zero_add _).symm

/-- A tile's stored entry. -/
theorem ytile_step (i : grid0.Coords) (x0 : FVec Ideal S12x192 .f32) (x2 : FVec Ideal S2048x1536 .fp8e4m3) (xs : FVec Ideal S256x1536 .bf16)
    (j : Fin 8) (r n : Fin 256) (row : Fin 2048) (h : row.val = 256 * j.val + n.val) (q : Fin 192) (hq : q.val = 16 * (i 0).val + row.val / 128) :
    ytile (F := Ideal) xs
      (wrow (F := Ideal) (fun g => View.ld (Val := Elt Ideal) (e' := .f32) x0 (sRect i ⟨2 * j.val, by omega⟩ g) (Shape.Idx.first (s := S1x1) (by decide)))
        (fun g => View.ld (Val := Elt Ideal) (e' := .fp8e4m3) x2 (wRect ⟨2 * j.val, by omega⟩ g)))
      (wrow (F := Ideal) (fun g => View.ld (Val := Elt Ideal) (e' := .f32) x0 (sRect i ⟨2 * j.val + 1, by omega⟩ g) (Shape.Idx.first (s := S1x1) (by decide)))
        (fun g => View.ld (Val := Elt Ideal) (e' := .fp8e4m3) x2 (wRect ⟨2 * j.val + 1, by omega⟩ g))) (ix2 r n)
      = ∑ k : Fin 1536, (show EReal from xs (ix2 r k)) * ((show EReal from x2 (ix2 row k)) * x0 (ix2 (Cert.Scale.grp k) q)) := by
  by_cases hn : n.val < 128
  · refine (ytile_left _ _ _ r n ⟨n.val, hn⟩ rfl).trans (Finset.sum_congr rfl fun k _ => congrArg _ ?_)
    exact wrow_step i x0 x2 _ _ k row (by simp only []; omega) q (by simp only []; omega)
  · refine (ytile_right _ _ _ r n ⟨n.val - 128, by omega⟩ (by simp only []; omega)).trans (Finset.sum_congr rfl fun k _ => congrArg _ ?_)
    exact wrow_step i x0 x2 _ _ k row (by simp only []; omega) q (by simp only []; omega)

theorem emb_y (j : Fin 8) (r n : Fin 256) : (yRect j).emb (ix2 r n : S256x256.Idx) = ix2 r ⟨256 * j.val + n.val, by omega⟩ := by
  funext a
  apply Fin.ext
  refine (Rect.idx_unit_val _ _ _ _ a).trans ?_
  fin_cases a
  · show 0 + r.val = r.val; omega
  · rfl

/-- What a step stores of the product. -/
theorem yOf_at (i : grid0.Coords) (x0 : FVec Ideal S12x192 .f32) (x2 : FVec Ideal S2048x1536 .fp8e4m3) (xs : FVec Ideal S256x1536 .bf16)
    (hi : (i 0).val < 12) (r : Fin 256) (n : Fin 2048) :
    yOf (F := Ideal) i x0 x2 xs (ix2 r n) = ∑ k : Fin 1536, (show EReal from xs (ix2 r k)) * ((show EReal from x2 (ix2 n k))
      * x0 (ix2 (Cert.Scale.grp k) ⟨16 * (i 0).val + n.val / 128, by omega⟩)) := by
  refine View.canon_apply_of_pieces (Val := Elt Ideal) (S := S256x2048) (e := .bf16)
    (fun y => ∑ k : Fin 1536, (show EReal from xs (ix2 (y 0) k)) * ((show EReal from x2 (ix2 (y 1) k))
      * x0 (ix2 (Cert.Scale.grp k) ⟨16 * (i 0).val + (y 1).val / 128, by have : (y 1).val < 2048 := (y 1).isLt; omega⟩))) _ ?_ (ix2 r n) (cover_y _ _ _ _)
  intro p hp x
  obtain ⟨j, -, rfl⟩ := List.mem_map.mp hp
  obtain ⟨a, b, rfl⟩ : ∃ (a b : Fin 256), x = (ix2 a b : S256x256.Idx) := ⟨x 0, x 1, eq_ix2 x⟩
  rw [ld_x]
  refine (ytile_step i x0 x2 xs j a b ⟨256 * j.val + b.val, by omega⟩ rfl ⟨16 * (i 0).val + (256 * j.val + b.val) / 128, by omega⟩ rfl).trans ?_
  dsimp only
  rw [emb_y]
  rfl

end Cert.KernelIdeal.Hand
end
-- ==== Proof.KArrays.lean ====
module

public import proofs.«01_k».proof.Proof.KProduct
public import proofs.«01_k».proof.Proof.Run

/-! The kernel's results after the run, entry by entry, as functions of the arguments' entries. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem v1_at (r : Fin 256) (k : Fin 1536) : V m c main_v1 (ix2 r k) = m ((c : Thread nD τ).loc main_arg0) (ix3 r 0 k) := by
  simp only [V, V0, List.flatten_cons, List.flatten_nil, List.append_nil]
  entry_read
  pointwise

theorem v0_at (g : Fin 12) (q : Fin 192) : V m c main_v0 (ix2 g q) = m ((c : Thread nD τ).loc main_arg2) (ix2 q g) := by
  simp only [V, V0, List.flatten_cons, List.flatten_nil, List.append_nil]
  entry_read
  pointwise

theorem idx : ∀ t : Fin cfg0.N, win0_0.index t = ![0, 0] ∧ win0_1.index t = ![0, 0] ∧ win0_2.index t = ![t.val, 0]
    ∧ win0_3.index t = ![0, t.val] ∧ win0_4.index t = ![0, 0] ∧ win0_5.index t = ![0, 0, 0] ∧ (grid0.coords t 0).val = t.val := (by decide +kernel : ∀ t : Fin grid0.N, _)

theorem xin_at (r : Fin 256) (k : Fin 1536) : xin m c (ix2 r k) = m ((c : Thread nD τ).loc main_arg0) (ix3 r 0 k) := by
  unfold xin
  rw [← v1_at m c r k]
  blk_ext [iblk, idx t0]

theorem b0_at (t : Fin cfg0.N) (g : Fin 12) (q : Fin 192) : iblk m c 0 t (ix2 g q) = m ((c : Thread nD τ).loc main_arg2) (ix2 q g) := by
  rw [← v0_at m c g q]
  blk_ext [iblk, idx t]

theorem b2_at (t : Fin cfg0.N) (n : Fin 2048) (k : Fin 1536) (ht : t.val < 12) :
    iblk m c 2 t (ix2 n k) = m ((c : Thread nD τ).loc main_arg1) (ix2 ⟨2048 * t.val + n.val, by omega⟩ k) := by
  blk_ext [iblk, V, idx t]

/-! ### The arguments' entries -/

abbrev Xarg (r : Fin 256) (k : Fin 1536) : EReal := m ((c : Thread nD τ).loc main_arg0) (ix3 r 0 k)
abbrev Warg (n : Fin 24576) (k : Fin 1536) : EReal := m ((c : Thread nD τ).loc main_arg1) (ix2 n k)
abbrev Sarg (q : Fin 192) (g : Fin 12) : EReal := m ((c : Thread nD τ).loc main_arg2) (ix2 q g)
abbrev scArg (r : Fin 256) (g : Fin 12) : EReal := Cert.Scale.scaleOf (Cert.Scale.ratioAt (Xarg m c) r g)
abbrev invArg (r : Fin 256) (g : Fin 12) : EReal := Cert.Scale.invOf (Cert.Scale.ratioAt (Xarg m c) r g)

theorem ent_xin : ent (xin m c) = Xarg m c := by
  funext r k
  exact xin_at m c r k

theorem kInv_xin : kInv (xin m c) = invArg m c := by
  funext r g
  simp only [kInv, ent_xin]

theorem kSc_xin : kSc (xin m c) = scArg m c := by
  funext r g
  simp only [kSc, ent_xin]

/-- What step `t` stores of the product, in the arguments' entries. -/
theorem y_at (t : Fin cfg0.N) (ht : t.val < 12) (r : Fin 256) (n : Fin 2048) :
    (dats m 0 c).after 3 t (ix2 r n)
      = Cert.Scale.prod (scArg m c) (invArg m c) (Xarg m c) (Warg m c) (Sarg m c) r ⟨2048 * t.val + n.val, by omega⟩ := by
  have hc : (grid0.coords t 0).val = t.val := (idx t).2.2.2.2.2.2
  rw [after0_3]
  refine (yOf_at (grid0.coords t) _ _ _ (by rw [hc]; exact ht) r n).trans ?_
  unfold Cert.Scale.prod
  refine Finset.sum_congr rfl fun k _ => ?_
  refine congrArg₂ (fun a b : EReal => a * b) ?_ (congrArg₂ (fun a b : EReal => a * b) (b2_at m c t n k ht) ?_)
  · rw [xwOf_at]
    rw [kInv_xin, kSc_xin, ent_xin]
  · refine (b0_at m c t _ _).trans ?_
    refine congrArg (fun q => Sarg m c q (Cert.Scale.grp k)) (Fin.ext ?_)
    show 16 * (grid0.coords t 0).val + n.val / 128 = (2048 * t.val + n.val) / 128
    omega

/-! ### The arrays the region leaves -/

/-- The product's array after the region: every column comes from the step that stores its block. -/
theorem arr3 : (dats m 0 c).arrAt 3 cfg0.N = fun j : S256x24576.Idx =>
    Cert.Scale.prod (scArg m c) (invArg m c) (Xarg m c) (Warg m c) (Sarg m c) (j 0) (j 1) := by
  refine Dat.arrAt_eq_of_covers (dats m 0 c) 3 _ (by decide +kernel) fun t hf y => ?_
  have ht : t.val < 12 := Nat.lt_of_lt_of_eq t.isLt N_0
  refine Eq.trans ?_ ((y_at m c t ht (y 0) (y 1)).trans ?_)
  · blk_ext [idx t]
  · refine congrArg₂ (Cert.Scale.prod (scArg m c) (invArg m c) (Xarg m c) (Warg m c) (Sarg m c)) (Fin.ext ?_) (Fin.ext ?_)
    · blk_simp [idx t]
    · blk_simp [idx t]
      exact congrArg (· + (y 1).val) (Nat.mul_comm 2048 t.val)

/-- The codes' array after the region is what the first step stored. -/
theorem arr4 : (dats m 0 c).arrAt 4 cfg0.N = codesOf (xin m c) := by
  refine (dats m 0 c).arrAt_eq_of_after_last 4 t0_11 (by decide +kernel) _ fun j => ?_
  rw [after0_4]
  blk_ext [idx t0_11]

/-- The scales' array after the region is what the first step stored. -/
theorem arr5 : (dats m 0 c).arrAt 5 cfg0.N = scaleOf (xin m c) := by
  refine (dats m 0 c).arrAt_eq_of_after_last 5 t0_11 (by decide +kernel) _ fun j => ?_
  rw [after0_5]
  blk_ext [idx t0_11]

/-! ### The results -/

theorem arrRef_inj : Function.Injective (Pipeline.arrRef spec0) := by decide

/-- An entry of the first result. -/
theorem tail3 (r : Fin 256) (n : Fin 24576) :
    Pipeline.afterTail₀ cfgs (dats m) 0 (V0 m) [hostOps1] c main_v3 (ix3 r 0 n)
      = Cert.Scale.prod (scArg m c) (invArg m c) (Xarg m c) (Warg m c) (Sarg m c) r n := by
  unfold Pipeline.afterTail₀
  simp only [List.flatten_cons, List.flatten_nil, List.append_nil]
  entry_read
  pointwise
  refine (congrFun (Pipeline.withArrays_arr _ arrRef_inj c (V0 m c) _ 3) (ix2 r n)).trans ?_
  exact congrFun (arr3 m c) (ix2 r n)

/-- An entry of the second result. -/
theorem tail4 (r : Fin 256) (k : Fin 1536) :
    Pipeline.afterTail₀ cfgs (dats m) 0 (V0 m) [hostOps1] c main_v4 (ix3 r 0 k)
      = Cert.Scale.code (invArg m c) (Xarg m c) r k := by
  unfold Pipeline.afterTail₀
  simp only [List.flatten_cons, List.flatten_nil, List.append_nil]
  entry_read
  pointwise
  refine (congrFun (Pipeline.withArrays_arr _ arrRef_inj c (V0 m c) _ 4) (ix2 r k)).trans ?_
  refine (congrFun (arr4 m c) (ix2 r k)).trans ((codesOf_at _ r k).trans ?_)
  rw [kInv_xin, ent_xin]

/-- An entry of the third result. -/
theorem tail5 (r : Fin 256) (g : Fin 12) :
    Pipeline.afterTail₀ cfgs (dats m) 0 (V0 m) [hostOps1] c main_v5 (ix3 r 0 g) = scArg m c r g := by
  unfold Pipeline.afterTail₀
  simp only [List.flatten_cons, List.flatten_nil, List.append_nil]
  entry_read
  pointwise
  refine (congrFun (Pipeline.withArrays_arr _ arrRef_inj c (V0 m c) _ 5) (ix3 g 0 r)).trans ?_
  refine (congrFun (arr5 m c) (ix3 g 0 r)).trans ((scaleOf_at _ r g).trans ?_)
  rw [kSc_xin]

/-- Every execution ends with the product, the codes and the scales at these entries, the arguments unchanged. -/
theorem run_values (ρ : Dev nD → PrngReg) : θ_run defs (onTc (τ := τ) (main (F := Ideal))) ⟨m, fun _ => 0, ρ⟩ (fun res => ∀ c : Dev nD,
    res.2.mem ((c.tc : Thread nD τ).loc main_v3) = (fun j : S256x1x24576.Idx => Cert.Scale.prod (scArg m c) (invArg m c) (Xarg m c) (Warg m c) (Sarg m c) (j 0) (j 2))
    ∧ res.2.mem ((c.tc : Thread nD τ).loc main_v4) = (fun j : S256x1x1536.Idx => Cert.Scale.code (invArg m c) (Xarg m c) (j 0) (j 2))
    ∧ res.2.mem ((c.tc : Thread nD τ).loc main_v5) = (fun j : S256x1x12.Idx => scArg m c (j 0) (j 2))
    ∧ res.2.mem ((c.tc : Thread nD τ).loc main_arg0) = m ((c.tc : Thread nD τ).loc main_arg0)
    ∧ res.2.mem ((c.tc : Thread nD τ).loc main_arg1) = m ((c.tc : Thread nD τ).loc main_arg1)
    ∧ res.2.mem ((c.tc : Thread nD τ).loc main_arg2) = m ((c.tc : Thread nD τ).loc main_arg2)) := by
  refine (θ_run defs _ _).mono (fun res h c => ?_) (θ_run_and (run_main m ρ) (frame m ρ))
  obtain ⟨h, hf, -⟩ := h
  refine ⟨?_, ?_, ?_, hf c⟩
  · refine ((h c).2 main_v3 (Pipeline.mem_restRefs_of main_v3 (by decide) (by decide))).trans (funext fun j => ?_)
    obtain ⟨r, z, n, rfl⟩ : ∃ (r : Fin 256) (z : Fin 1) (n : Fin 24576), j = ix3 r z n := ⟨j 0, j 1, j 2, eq_ix3 j⟩
    obtain rfl : z = 0 := Subsingleton.elim _ _
    exact tail3 m c r n
  · refine ((h c).2 main_v4 (Pipeline.mem_restRefs_of main_v4 (by decide) (by decide))).trans (funext fun j => ?_)
    obtain ⟨r, z, n, rfl⟩ : ∃ (r : Fin 256) (z : Fin 1) (n : Fin 1536), j = ix3 r z n := ⟨j 0, j 1, j 2, eq_ix3 j⟩
    obtain rfl : z = 0 := Subsingleton.elim _ _
    exact tail4 m c r n
  · refine ((h c).2 main_v5 (Pipeline.mem_restRefs_of main_v5 (by decide) (by decide))).trans (funext fun j => ?_)
    obtain ⟨r, z, n, rfl⟩ : ∃ (r : Fin 256) (z : Fin 1) (n : Fin 12), j = ix3 r z n := ⟨j 0, j 1, j 2, eq_ix3 j⟩
    obtain rfl : z = 0 := Subsingleton.elim _ _
    exact tail5 m c r n

end Cert.KernelIdeal.Hand
end
-- ==== Proof.RExp.lean ====
module

public import proofs.«01_k».proof.Proof.Scalar
public import proofs.«01_k».proof.Proof.Gen.ReferenceIdeal.Frame
public import Idealize.ShloMosaic.Lib.Pipeline.ValueKit
public import Idealize.ShloMosaic.Lib.Claim

/-! The scales and their reciprocals that the reference's host lines compute, entry by entry. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

/-! ### The quantiser's exponents, as the host lines compute them -/

/-- The largest magnitude of every group. -/
def rPeak (x : FVec Ideal S256x1x1536 .bf16) : FVec Ideal S256x12 .f32 :=
  Host.reduce FloatOps.maximumf (Host.absf (shapeCast S256x12x128 (extf .f32 x bitsLt_bf16_f32) shapeCasts_S256x1x1536_S256x12x128))
    (constant S_ .f32 0xFF800000#32) reducesTo_S256x12x128_S256x12_d2 h_S_

/-- The largest magnitudes against the largest code. -/
def rRatio (x : FVec Ideal S256x1x1536 .bf16) : FVec Ideal S256x12 .f32 :=
  mulf (rPeak x) (broadcastInDim S256x12 ![] bcast_S_S256x12 (constant S_ .f32 0x3B124925#32))

/-- The exponents tried. -/
def rTried : FVec Ideal S253 .f32 :=
  sitofp .f32 (addi (broadcastInDim S253 ![] bcast_S_S253 (constantI S_ 32 4294967171#32)) (iotaInDim S253 32 0))

/-- The least exponent tried whose power of two is above the ratio. -/
def rLeast (v : FVec Ideal S256x12 .f32) : FVec Ideal S256x12 .f32 :=
  Host.reduce FloatOps.minimumf
    (select
      (cmpf .olt (broadcastInDim S256x12x253 ![0, 1, 2] bcast_S256x12x1_S256x12x253_0_1_2 (broadcastInDim S256x12x1 ![0, 1] bcast_S256x12_S256x12x1_0_1 v))
        (broadcastInDim S256x12x253 ![0, 1, 2] bcast_S1x1x253_S256x12x253_0_1_2 (broadcastInDim S1x1x253 ![2] bcast_S253_S1x1x253_2
          (Host.powf (broadcastInDim S253 ![] bcast_S_S253 (constant S_ .f32 0x40000000#32)) rTried))))
      (broadcastInDim S256x12x253 ![2] bcast_S253_S256x12x253_2 rTried)
      (broadcastInDim S256x12x253 ![] bcast_S_S256x12x253 (constant (F := Ideal) S_ .f32 0x43000000#32)))
    (constant S_ .f32 0x7F800000#32) reducesTo_S256x12x253_S256x12_d2 h_S_

/-- The exponents of the scales. -/
def rExp (x : FVec Ideal S256x1x1536 .bf16) : FVec Ideal S256x12 .f32 :=
  select (cmpf .oeq (rPeak x) (broadcastInDim S256x12 ![] bcast_S_S256x12 (constant S_ .f32 0x00000000#32)))
    (broadcastInDim S256x12 ![] bcast_S_S256x12 (constant (F := Ideal) S_ .f32 0x00000000#32))
    (select (cmpf .olt (rRatio x) (broadcastInDim S256x12 ![] bcast_S_S256x12 (constant S_ .f32 0x00800000#32)))
      (broadcastInDim S256x12 ![] bcast_S_S256x12 (constant (F := Ideal) S_ .f32 0x00000000#32)) (rLeast (rRatio x)))

/-- The scales, and their reciprocals. -/
def rSc (e : FVec Ideal S256x12 .f32) : FVec Ideal S256x12 .f32 :=
  Host.powf (broadcastInDim S256x12 ![] bcast_S_S256x12 (constant S_ .f32 0x40000000#32)) e

theorem two_bits : Ideal.ofBits .f32 0x40000000#32 = ((2 : ℝ) : EReal) := by
  simp [Ideal.ofBits, Ideal.ieee]
  exact_mod_cast (by norm_num : (8388608 : ℝ) * (2 ^ 22)⁻¹ = 2)

theorem inf_bits : Ideal.ofBits .f32 0x7F800000#32 = ⊤ := by
  simp [Ideal.ofBits, Ideal.ieee]

theorem none_bits : Ideal.ofBits .f32 0x43000000#32 = ((128 : ℝ) : EReal) := by
  simp [Ideal.ofBits, Ideal.ieee]
  exact_mod_cast (by norm_num : (8388608 : ℝ) * (2 ^ 16)⁻¹ = 128)

theorem rPeak_at (x : FVec Ideal S256x1x1536 .bf16) (r : Fin 256) (g : Fin 12) :
    rPeak x (ix2 r g) = Cert.Scale.peak fun k => x (ix3 r 0 (Cert.Scale.col g k)) := by
  pointwise [rPeak]
  unfold Cert.Scale.peak
  refine congrArg (fun f => Finset.fold max (Ideal.ofBits .f32 0xFF800000#32) f Finset.univ) (funext fun k => ?_)
  refine congrArg (fun q => FloatOps.absf (F := Ideal) (φ := .f32) (x (ix3 r 0 q))) (Fin.ext ?_)
  show g.val * 128 + k.val = 128 * g.val + k.val
  omega

theorem rRatio_at (x : FVec Ideal S256x1x1536 .bf16) (r : Fin 256) (g : Fin 12) :
    rRatio x (ix2 r g) = Cert.Scale.ratio fun k => x (ix3 r 0 (Cert.Scale.col g k)) := by
  unfold Cert.Scale.ratio
  rw [← rPeak_at]
  pointwise [rRatio]

theorem rTried_at (k : Fin 253) : rTried (ix1 k) = Cert.Scale.tried k := by
  pointwise [rTried]
  rfl

theorem rLeast_at (v : FVec Ideal S256x12 .f32) (r : Fin 256) (g : Fin 12) :
    rLeast v (ix2 r g) = Cert.Scale.least (v (ix2 r g)) := by
  pointwise [rLeast]
  unfold Cert.Scale.least
  simp only [rTried_at, two_bits, inf_bits, none_bits]

/-- The exponent that the host lines compute for a group is `refExp` of the group. -/
theorem rExp_at (x : FVec Ideal S256x1x1536 .bf16) (r : Fin 256) (g : Fin 12) :
    rExp x (ix2 r g) = Cert.Scale.refExp fun k => x (ix3 r 0 (Cert.Scale.col g k)) := by
  pointwise [rExp]
  rw [rLeast_at, rRatio_at, rPeak_at]
  rfl

theorem rSc_at (e : FVec Ideal S256x12 .f32) (r : Fin 256) (g : Fin 12) :
    rSc e (ix2 r g) = Ideal.pow ((2 : ℝ) : EReal) (e (ix2 r g)) := by
  pointwise [rSc]
  rw [two_bits]

variable (m : (ℓ : Loc nD τ sig) → Buf (Elt Ideal) ℓ) (c : Dev nD)

theorem v30_at (r : Fin 256) (k : Fin 1536) : V m c main_v30 (ix2 r k) = m ((c : Thread nD τ).loc main_arg0) (ix3 r 0 k) := by
  simp only [V, V0, List.flatten_cons, List.flatten_nil, List.append_nil, List.cons_append, List.nil_append]
  entry_read
  pointwise

/-! Buffers of the called functions hold their values as they are. -/

theorem main_cst_2_id (v : main_cst_2.ty.Contents (Elt Ideal)) : (StableHlo.TRef.of main_cst_2 : StableHlo.TRef sig ⟨S_, .f32⟩).ofBuf v = v := rfl
theorem main_v9_id (v : main_v9.ty.Contents (Elt Ideal)) : (StableHlo.TRef.of main_v9 : StableHlo.TRef sig ⟨S253, .f32⟩).ofBuf v = v := rfl
theorem main_v16_id (v : main_v16.ty.Contents (Elt Ideal)) : (StableHlo.TRef.of main_v16 : StableHlo.TRef sig ⟨S256x12x253, .i1⟩).ofBuf v = v := rfl
theorem main_v17_id (v : (⟨S256x12x253, .f32⟩ : BufTy).Contents (Elt Ideal)) : (StableHlo.TRef.of main_v17 : StableHlo.TRef sig ⟨S256x12x253, .f32⟩).toBuf v = v := rfl
theorem main_v18_id (v : main_v18.ty.Contents (Elt Ideal)) : (StableHlo.TRef.of main_v18 : StableHlo.TRef sig ⟨S256x12, .f32⟩).ofBuf v = v := rfl
theorem main_cst_5_id (v : main_cst_5.ty.Contents (Elt Ideal)) : (StableHlo.TRef.of main_cst_5 : StableHlo.TRef sig ⟨S_, .f32⟩).ofBuf v = v := rfl
theorem main_v20_id (v : main_v20.ty.Contents (Elt Ideal)) : (StableHlo.TRef.of main_v20 : StableHlo.TRef sig ⟨S256x12, .i1⟩).ofBuf v = v := rfl
theorem main_v23_id (v : main_v23.ty.Contents (Elt Ideal)) : (StableHlo.TRef.of main_v23 : StableHlo.TRef sig ⟨S256x12, .i1⟩).ofBuf v = v := rfl
theorem main_cst_7_id (v : main_cst_7.ty.Contents (Elt Ideal)) : (StableHlo.TRef.of main_cst_7 : StableHlo.TRef sig ⟨S_, .f32⟩).ofBuf v = v := rfl
theorem main_v24_id (v : (⟨S256x12, .f32⟩ : BufTy).Contents (Elt Ideal)) : (StableHlo.TRef.of main_v24 : StableHlo.TRef sig ⟨S256x12, .f32⟩).toBuf v = v := rfl

/-- The buffer of the scales, as the host lines compute it. -/
theorem v26_eq : V m c main_v26 = rSc (rExp (m ((c : Thread nD τ).loc main_arg0))) := by
  simp only [V, V0, List.flatten_cons, List.flatten_nil, List.append_nil, List.cons_append, List.nil_append]
  entry_read
  simp only [StableHlo.TRef.ofBuf_toBuf, main_cst_2_id, main_v9_id, main_v16_id, main_v17_id, main_v18_id, main_cst_5_id, main_v20_id, main_v23_id, main_cst_7_id, main_v24_id]
  unfold rSc rExp rLeast rRatio rPeak rTried
  rfl

/-- The buffer of the reciprocals, as the host lines compute it. -/
theorem v29_eq : V m c main_v29 = rSc (Host.negf (rExp (m ((c : Thread nD τ).loc main_arg0)))) := by
  simp only [V, V0, List.flatten_cons, List.flatten_nil, List.append_nil, List.cons_append, List.nil_append]
  entry_read
  simp only [StableHlo.TRef.ofBuf_toBuf, main_cst_2_id, main_v9_id, main_v16_id, main_v17_id, main_v18_id, main_cst_5_id, main_v20_id, main_v23_id, main_cst_7_id, main_v24_id]
  unfold rSc rExp rLeast rRatio rPeak rTried
  rfl

end Cert.ReferenceIdeal.Hand
end
-- ==== Proof.RArrays.lean ====
module

public import proofs.«01_k».proof.Proof.RExp

/-! The reference's results after the run, entry by entry, as functions of the arguments' entries. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

/-! ### The body's values -/

theorem pay1_at (x : FVec Ideal S256x1536 .bf16) (inv : FVec Ideal S256x12 .f32) (r : Fin 256) (g : Fin 12) (k : Fin 128) :
    k0_pay1 (F := Ideal) x inv (ix3 r g k)
      = Cert.Scale.code (fun r g => inv (ix2 r g)) (fun r c => x (ix2 r c)) r (Cert.Scale.col g k) := by
  pointwise [k0_pay1]
  unfold Cert.Scale.code
  rw [Cert.Scale.grp_col]
  refine congrArg (fun q => min (Ideal.ofBits .f32 0x43E00000#32) (max (Ideal.ofBits .f32 0xC3E00000#32) ((show EReal from x (ix2 r q)) * inv (ix2 r g)))) (Fin.ext ?_)
  show g.val * 128 + k.val = 128 * g.val + k.val
  omega

/-- The same at a column of the flat array. -/
theorem pay1_flat (x : FVec Ideal S256x1536 .bf16) (inv : FVec Ideal S256x12 .f32) (r : Fin 256) (k : Fin 1536) :
    k0_pay1 (F := Ideal) x inv (ix3 r ⟨k.val / 128, by omega⟩ ⟨k.val % 128, by omega⟩)
      = Cert.Scale.code (fun r g => inv (ix2 r g)) (fun r c => x (ix2 r c)) r k := by
  refine (pay1_at x inv r ⟨k.val / 128, by omega⟩ ⟨k.val % 128, by omega⟩).trans ?_
  refine congrArg (Cert.Scale.code (fun r g => inv (ix2 r g)) (fun r c => x (ix2 r c)) r) (Fin.ext ?_)
  show 128 * (k.val / 128) + k.val % 128 = k.val
  omega

/-- The codes that the reference's body stores. -/
theorem pay2_at (x : FVec Ideal S256x1536 .bf16) (inv : FVec Ideal S256x12 .f32) (r : Fin 256) (k : Fin 1536) :
    k0_pay2 (F := Ideal) x inv (ix2 r k)
      = Cert.Scale.code (fun r g => inv (ix2 r g)) (fun r c => x (ix2 r c)) r k := by
  pointwise [k0_pay2]
  exact pay1_flat x inv r k

/-- The product that the reference's body stores. -/
theorem pay3_at (x : FVec Ideal S256x1536 .bf16) (inv sc : FVec Ideal S256x12 .f32) (s : FVec Ideal S192x12 .f32) (w : FVec Ideal S24576x1536 .fp8e4m3)
    (r : Fin 256) (n : Fin 24576) :
    k0_pay3 (F := Ideal) x inv sc s w (ix2 r n)
      = Cert.Scale.prod (fun r g => sc (ix2 r g)) (fun r g => inv (ix2 r g)) (fun r c => x (ix2 r c)) (fun n k => w (ix2 n k)) (fun q g => s (ix2 q g)) r n := by
  pointwise [k0_pay3]
  unfold Cert.Scale.prod
  refine Finset.sum_congr rfl fun k _ => ?_
  exact congrArg (fun z : EReal => z * _ * _) (pay1_flat x inv r k)

variable (m : (ℓ : Loc nD τ sig) → Buf (Elt Ideal) ℓ) (c : Dev nD)

theorem idx : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0] := by decide +kernel

/-! Every window's one block is its whole array. -/

theorem b0 : (iblk m c 0 t0_0 : FVec Ideal S256x1536 .bf16) = V m c main_v30 := by
  show _ = V m c (Pipeline.arrRef spec0 0)
  unfold iblk
  generalize V m c (Pipeline.arrRef spec0 0) = A
  blk_ext! [idx]

theorem b1 : (iblk m c 1 t0_0 : FVec Ideal S256x12 .f32) = V m c main_v26 := by
  show _ = V m c (Pipeline.arrRef spec0 1)
  unfold iblk
  generalize V m c (Pipeline.arrRef spec0 1) = A
  blk_ext! [idx]

theorem b2 : (iblk m c 2 t0_0 : FVec Ideal S256x12 .f32) = V m c main_v29 := by
  show _ = V m c (Pipeline.arrRef spec0 2)
  unfold iblk
  generalize V m c (Pipeline.arrRef spec0 2) = A
  blk_ext! [idx]

theorem b3 : (iblk m c 3 t0_0 : FVec Ideal S24576x1536 .fp8e4m3) = V m c main_arg1 := by
  show _ = V m c (Pipeline.arrRef spec0 3)
  unfold iblk
  generalize V m c (Pipeline.arrRef spec0 3) = A
  blk_ext! [idx]

theorem b4 : (iblk m c 4 t0_0 : FVec Ideal S192x12 .f32) = V m c main_arg2 := by
  show _ = V m c (Pipeline.arrRef spec0 4)
  unfold iblk
  generalize V m c (Pipeline.arrRef spec0 4) = A
  blk_ext! [idx]

/-- The product's array after the region. -/
theorem arr5 : (dats m 0 c).arrAt 5 cfg0.N = k0_pay3 (F := Ideal) (V m c main_v30) (V m c main_v29) (V m c main_v26) (V m c main_arg2) (V m c main_arg1) := by
  refine (dats m 0 c).arrAt_eq_of_after_last 5 t0_0 (by decide +kernel) _ fun j => ?_
  rw [after0_5, b0, b1, b2, b3, b4]
  frame_out
  blk_ext []

/-- The codes' array after the region. -/
theorem arr6 : (dats m 0 c).arrAt 6 cfg0.N = k0_pay2 (F := Ideal) (V m c main_v30) (V m c main_v29) := by
  refine (dats m 0 c).arrAt_eq_of_after_last 6 t0_0 (by decide +kernel) _ fun j => ?_
  rw [after0_6, b0, b1, b2, b3, b4]
  frame_out
  blk_ext []

end Cert.ReferenceIdeal.Hand
end
-- ==== Proof.RRun.lean ====
module

public import proofs.«01_k».proof.Proof.RArrays

/-! The reference's results after the run, entry by entry, as functions of the arguments' entries. -/

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ### The arguments' entries -/

abbrev Xarg (r : Fin 256) (k : Fin 1536) : EReal := m ((c : Thread nD τ).loc main_arg0) (ix3 r 0 k)
abbrev Warg (n : Fin 24576) (k : Fin 1536) : EReal := m ((c : Thread nD τ).loc main_arg1) (ix2 n k)
abbrev Sarg (q : Fin 192) (g : Fin 12) : EReal := m ((c : Thread nD τ).loc main_arg2) (ix2 q g)
abbrev scArg (r : Fin 256) (g : Fin 12) : EReal := Ideal.pow ((2 : ℝ) : EReal) (Cert.Scale.refExp fun k => Xarg m c r (Cert.Scale.col g k))
abbrev invArg (r : Fin 256) (g : Fin 12) : EReal := Ideal.pow ((2 : ℝ) : EReal) (-(Cert.Scale.refExp fun k => Xarg m c r (Cert.Scale.col g k)))

theorem x_ent : (fun (r : Fin 256) (k : Fin 1536) => (V m c main_v30 : FVec Ideal S256x1536 .bf16) (ix2 r k)) = Xarg m c :=
  funext fun r => funext fun k => v30_at m c r k

/-- The scales the region is given are the powers of two of the exponents. -/
theorem sc_ent : (fun (r : Fin 256) (g : Fin 12) => (V m c main_v26 : FVec Ideal S256x12 .f32) (ix2 r g)) = scArg m c := by
  rw [v26_eq]
  funext r g
  rw [rSc_at, rExp_at]

/-- The reciprocals the region is given are the powers of two of the negated exponents. -/
theorem inv_ent : (fun (r : Fin 256) (g : Fin 12) => (V m c main_v29 : FVec Ideal S256x12 .f32) (ix2 r g)) = invArg m c := by
  rw [v29_eq]
  funext r g
  rw [rSc_at]
  pointwise
  rw [rExp_at]

theorem w_ent : (fun (n : Fin 24576) (k : Fin 1536) => (V m c main_arg1 : FVec Ideal S24576x1536 .fp8e4m3) (ix2 n k)) = Warg m c := by
  rw [V_main_arg1]

theorem s_ent : (fun (q : Fin 192) (g : Fin 12) => (V m c main_arg2 : FVec Ideal S192x12 .f32) (ix2 q g)) = Sarg m c := by
  rw [V_main_arg2]

/-! ### The results -/

theorem arrRef_inj : Function.Injective (Pipeline.arrRef spec0) := by decide

/-- An entry of the first result. -/
theorem tail32 (r : Fin 256) (n : Fin 24576) :
    Pipeline.afterTail₀ cfgs (dats m) 0 (V0 m) [hostOps1] c main_v32 (ix3 r 0 n)
      = Cert.Scale.prod (scArg m c) (invArg m c) (Xarg m c) (Warg m c) (Sarg m c) r n := by
  unfold Pipeline.afterTail₀
  simp only [List.flatten_cons, List.flatten_nil, List.append_nil]
  entry_read
  pointwise
  refine (congrFun (Pipeline.withArrays_arr _ arrRef_inj c (V0 m c) _ 5) (ix2 r n)).trans ?_
  refine (congrFun (arr5 m c) (ix2 r n)).trans ((pay3_at _ _ _ _ _ r n).trans ?_)
  rw [x_ent, sc_ent, inv_ent, w_ent, s_ent]

/-- An entry of the second result. -/
theorem tail33 (r : Fin 256) (k : Fin 1536) :
    Pipeline.afterTail₀ cfgs (dats m) 0 (V0 m) [hostOps1] c main_v33 (ix3 r 0 k)
      = Cert.Scale.code (invArg m c) (Xarg m c) r k := by
  unfold Pipeline.afterTail₀
  simp only [List.flatten_cons, List.flatten_nil, List.append_nil]
  entry_read
  pointwise
  refine (congrFun (Pipeline.withArrays_arr _ arrRef_inj c (V0 m c) _ 6) (ix2 r k)).trans ?_
  refine (congrFun (arr6 m c) (ix2 r k)).trans ((pay2_at _ _ r k).trans ?_)
  rw [x_ent, inv_ent]

/-- An entry of the third result: the scales the region was given. -/
theorem tail34 (r : Fin 256) (g : Fin 12) :
    Pipeline.afterTail₀ cfgs (dats m) 0 (V0 m) [hostOps1] c main_v34 (ix3 r 0 g) = scArg m c r g := by
  unfold Pipeline.afterTail₀
  simp only [List.flatten_cons, List.flatten_nil, List.append_nil]
  entry_read
  pointwise
  refine (congrFun (Pipeline.withArrays_arr _ arrRef_inj c (V0 m c) _ 1) (ix2 r g)).trans ?_
  refine (congrFun ((dats m 0 c).arrAt_in 1 rfl _) (ix2 r g)).trans ?_
  rw [A_eq]
  exact congrFun (congrFun (sc_ent m c) r) g

/-- Every execution ends with the product, the codes and the scales at these entries, the arguments unchanged. -/
theorem run_values (ρ : Dev nD → PrngReg) : θ_run defs (onTc (τ := τ) (main (F := Ideal))) ⟨m, fun _ => 0, ρ⟩ (fun res => ∀ c : Dev nD,
    res.2.mem ((c.tc : Thread nD τ).loc main_v32) = (fun j : S256x1x24576.Idx => Cert.Scale.prod (scArg m c) (invArg m c) (Xarg m c) (Warg m c) (Sarg m c) (j 0) (j 2))
    ∧ res.2.mem ((c.tc : Thread nD τ).loc main_v33) = (fun j : S256x1x1536.Idx => Cert.Scale.code (invArg m c) (Xarg m c) (j 0) (j 2))
    ∧ res.2.mem ((c.tc : Thread nD τ).loc main_v34) = (fun j : S256x1x12.Idx => scArg m c (j 0) (j 2))
    ∧ res.2.mem ((c.tc : Thread nD τ).loc main_arg0) = m ((c.tc : Thread nD τ).loc main_arg0)
    ∧ res.2.mem ((c.tc : Thread nD τ).loc main_arg1) = m ((c.tc : Thread nD τ).loc main_arg1)
    ∧ res.2.mem ((c.tc : Thread nD τ).loc main_arg2) = m ((c.tc : Thread nD τ).loc main_arg2)) := by
  refine (θ_run defs _ _).mono (fun res h c => ?_) (θ_run_and (run_main m ρ) (frame m ρ))
  obtain ⟨h, hf, -⟩ := h
  refine ⟨?_, ?_, ?_, hf c⟩
  · refine ((h c).2 main_v32 (Pipeline.mem_restRefs_of main_v32 (by decide) (by decide))).trans (funext fun j => ?_)
    obtain ⟨r, z, n, rfl⟩ : ∃ (r : Fin 256) (z : Fin 1) (n : Fin 24576), j = ix3 r z n := ⟨j 0, j 1, j 2, eq_ix3 j⟩
    obtain rfl : z = 0 := Subsingleton.elim _ _
    exact tail32 m c r n
  · refine ((h c).2 main_v33 (Pipeline.mem_restRefs_of main_v33 (by decide) (by decide))).trans (funext fun j => ?_)
    obtain ⟨r, z, n, rfl⟩ : ∃ (r : Fin 256) (z : Fin 1) (n : Fin 1536), j = ix3 r z n := ⟨j 0, j 1, j 2, eq_ix3 j⟩
    obtain rfl : z = 0 := Subsingleton.elim _ _
    exact tail33 m c r n
  · refine ((h c).2 main_v34 (Pipeline.mem_restRefs_of main_v34 (by decide) (by decide))).trans (funext fun j => ?_)
    obtain ⟨r, z, n, rfl⟩ : ∃ (r : Fin 256) (z : Fin 1) (n : Fin 12), j = ix3 r z n := ⟨j 0, j 1, j 2, eq_ix3 j⟩
    obtain rfl : z = 0 := Subsingleton.elim _ _
    exact tail34 m c r n

end Cert.ReferenceIdeal.Hand
end
-- ==== Proof.Bridge.lean ====
module

public import proofs.«01_k».proof.Proof.Scalar
public import proofs.«01_k».proof.Proof.Gen.Pre_finite
public import Idealize.ShloMosaic.Lib.ReduceAll

/-! On finite activations the kernel's scale of a group and its reciprocal are the reference's. -/

@[expose] public section

set_option maxRecDepth 16384
set_option exponentiation.threshold 600

noncomputable section

namespace Cert.Scale

open Idealize.ShloMosaic

/-- The magnitude of an extended real. -/
abbrev mag (x : EReal) : EReal := FloatOps.absf (F := Ideal) (φ := .f32) x

/-- The largest finite bfloat16. -/
abbrev most : EReal := Ideal.ofBits .bf16 0x7F7F#16

theorem mag_nonneg (x : EReal) : 0 ≤ mag x := by
  show (0 : EReal) ≤ max x (-x)
  rcases le_total 0 x with h | h
  · exact le_max_of_le_left h
  · exact le_max_of_le_right (by simpa using EReal.neg_le_neg_iff.mpr h)

theorem neg_inf_bits : Ideal.ofBits .f32 0xFF800000#32 = ⊥ := by
  simp [Ideal.ofBits, Ideal.ieee]

theorem normal_bits : Ideal.ofBits .f32 0x00800000#32 = (((2 : ℝ) ^ (-126 : ℤ) : ℝ) : EReal) := by
  simp [Ideal.ofBits, Ideal.ieee]
  exact_mod_cast (by norm_num : (8388608 : ℝ) * (2 ^ 149)⁻¹ = (2 ^ 126)⁻¹)

/-- The word for 1/448, as a real. -/
def recip : ℝ := 9586981 * (2 ^ 32)⁻¹

theorem recip_bits : Ideal.ofBits .f32 0x3B124925#32 = (recip : EReal) := by
  simp [Ideal.ofBits, Ideal.ieee, recip]

/-- The largest finite bfloat16, as a real. -/
def mostR : ℝ := 255 * 2 ^ 120

theorem most_bits : most = (mostR : EReal) := by
  simp [most, Ideal.ofBits, Ideal.ieee, mostR]

theorem peak_nonneg (f : Fin 128 → EReal) : 0 ≤ peak f :=
  Finset.le_fold_max _ |>.mpr (.inr ⟨0, Finset.mem_univ _, mag_nonneg _⟩)

theorem peak_le (f : Fin 128 → EReal) (h : ∀ k, mag (f k) ≤ most) : peak f ≤ most :=
  Finset.fold_max_le _ |>.mpr ⟨by rw [neg_inf_bits]; exact bot_le, fun k _ => h k⟩

/-- The ratio of a finite group is neither negative nor as large as `2^120`. -/
theorem ratio_bounds (f : Fin 128 → EReal) (h : ∀ k, mag (f k) ≤ most) :
    0 ≤ ratio f ∧ ratio f < (((2 : ℝ) ^ (120 : ℤ) : ℝ) : EReal) := by
  have h0 := peak_nonneg f
  have h1 := peak_le f h
  rw [most_bits] at h1
  unfold ratio
  rw [recip_bits]
  obtain ⟨p, hp⟩ : ∃ p : ℝ, peak f = (p : EReal) :=
    ⟨(peak f).toReal, (EReal.coe_toReal (ne_top_of_le_ne_top (EReal.coe_ne_top _) h1) (ne_bot_of_le_ne_bot (by simp) h0)).symm⟩
  rw [hp] at h0 h1 ⊢
  have h0' : 0 ≤ p := by exact_mod_cast h0
  have h1' : p ≤ mostR := by exact_mod_cast h1
  have hr : (0 : ℝ) < recip := by unfold recip; norm_num
  rw [← EReal.coe_mul]
  refine ⟨by exact_mod_cast mul_nonneg h0' hr.le, EReal.coe_lt_coe_iff.mpr ?_⟩
  refine lt_of_le_of_lt (mul_le_mul_of_nonneg_right h1' hr.le) ?_
  unfold mostR recip
  norm_num

/-- The reference's exponent is the integer that the kernel's words hold. -/
theorem refExp_eq (f : Fin 128 → EReal) (e : ℤ) (h : IsExp (ratio f) e) : refExp f = (((e : ℤ) : ℝ) : EReal) := by
  obtain ⟨h0, h1, h⟩ := h
  unfold refExp
  rw [normal_bits]
  split
  · rename_i hz
    have hr : ratio f = 0 := by unfold ratio; rw [hz, zero_mul]
    rcases h with ⟨-, rfl⟩ | ⟨hlo, -⟩
    · simp
    · rw [hr] at hlo
      exact absurd (EReal.coe_le_coe_iff.mp (by simpa using hlo)) (not_le_of_gt (zpow_pos (by norm_num : (0 : ℝ) < 2) (e - 1)))
  · rcases h with ⟨hs, rfl⟩ | ⟨hlo, hhi⟩
    · rw [if_pos hs]
      simp
    · rw [if_neg (not_lt_of_ge ?_), least_eq _ e h0 h1 hlo hhi]
      refine le_trans (EReal.coe_le_coe_iff.mpr ?_) hlo
      exact zpow_le_zpow_right₀ (by norm_num) (by omega)

/-- The two scales agree, and the two reciprocals. -/
theorem scale_agree (f : Fin 128 → EReal) (h : ∀ k, mag (f k) ≤ most) :
    scaleOf (ratio f) = Ideal.pow ((2 : ℝ) : EReal) (refExp f)
    ∧ invOf (ratio f) = Ideal.pow ((2 : ℝ) : EReal) (-refExp f) := by
  obtain ⟨h0, h1⟩ := ratio_bounds f h
  obtain ⟨e, he, hs, hi⟩ := exists_isExp (ratio f) h0 h1
  rw [refExp_eq f e he]
  refine ⟨hs.trans (pow_two_int e).symm, hi.trans ?_⟩
  rw [← pow_two_int (-e)]
  refine congrArg (Ideal.pow _) ?_
  rw [← EReal.coe_neg]
  push_cast
  rfl

/-- What the precondition says of one activation. -/
theorem finite_at (x : FVec Ideal Cert.Pre_finite.S256x1x1536 .bf16) (w : FVec Ideal Cert.Pre_finite.S24576x1536 .fp8e4m3)
    (s : FVec Ideal Cert.Pre_finite.S192x12 .f32) (h : Cert.Pre_finite.fn (F := Ideal) x w s = fun _ => 1#1)
    (i : Cert.Pre_finite.S256x1x1536.Idx) : mag (x i) ≤ most := by
  have : Subsingleton Cert.Pre_finite.S_.Idx := ⟨fun a b => funext fun d => d.elim0⟩
  have e := Host.reduce_andi_all _ _ _ _ _ (congrFun h (Shape.Idx.first Cert.Pre_finite.Gen.h_S_)) i
  have e' : BitVec.ofBool (decide (mag (x i) ≤ most)) = 1#1 := e
  by_contra hc
  rw [decide_eq_false hc] at e'
  exact absurd e' (by decide)

end Cert.Scale

end
-- ==== Proof.Algebraic.lean ====
module

public import proofs.«01_k».proof.Defs
public import proofs.«01_k».proof.Proof.KArrays
public import proofs.«01_k».proof.Proof.RRun
public import proofs.«01_k».proof.Proof.Bridge

/-! The kernel and the reference end with equal products, codes and scales, on finite activations. -/

@[expose] public section

set_option maxRecDepth 16384

noncomputable section

namespace Cert.Hand

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- On finite activations the two programs have the same scales and the same reciprocals. -/
theorem scales_agree (c : Dev Cert.KernelIdeal.nD) (hp : Cert.Pre_KernelIdeal_finite m)
    (hx : Cert.ReferenceIdeal.Hand.Xarg m' c = Cert.KernelIdeal.Hand.Xarg m c) :
    Cert.ReferenceIdeal.Hand.scArg m' c = Cert.KernelIdeal.Hand.scArg m c
    ∧ Cert.ReferenceIdeal.Hand.invArg m' c = Cert.KernelIdeal.Hand.invArg m c := by
  have key := fun (r : Fin 256) (g : Fin 12) => Cert.Scale.scale_agree (fun k => Cert.KernelIdeal.Hand.Xarg m c r (Cert.Scale.col g k))
    fun k => Cert.Scale.finite_at _ _ _ (hp c) (ix3 r 0 (Cert.Scale.col g k))
  unfold Cert.ReferenceIdeal.Hand.scArg Cert.ReferenceIdeal.Hand.invArg
  rw [hx]
  exact ⟨funext fun r => funext fun g => (key r g).1.symm, funext fun r => funext fun g => (key r g).2.symm⟩

/-- Both programs run and end with equal results. -/
theorem algebraic : Cert.algebraic_KernelIdeal_ReferenceIdeal_pre_finite := by
  intro m g m' g' hp ha
  refine ⟨_, _, _, Cert.KernelIdeal.Hand.run_values m g, ?_⟩
  refine (θ_run _ _ _).mono (fun res h c => ?_) (Cert.ReferenceIdeal.Hand.run_values m' g')
  obtain ⟨h0, h1, h2, ha0, ha1, ha2⟩ := h c
  obtain ⟨e0, e1, e2⟩ := ha c
  have hx : Cert.ReferenceIdeal.Hand.Xarg m' c = Cert.KernelIdeal.Hand.Xarg m c :=
    funext fun r => funext fun k => congrFun e0 (ix3 r 0 k)
  have hw : Cert.ReferenceIdeal.Hand.Warg m' c = Cert.KernelIdeal.Hand.Warg m c :=
    funext fun n => funext fun k => congrFun e1 (ix2 n k)
  have hs : Cert.ReferenceIdeal.Hand.Sarg m' c = Cert.KernelIdeal.Hand.Sarg m c :=
    funext fun q => funext fun k => congrFun e2 (ix2 q k)
  obtain ⟨hsc, hinv⟩ := scales_agree m m' c hp hx
  rw [hx, hw, hs, hsc, hinv] at h0
  rw [hx, hinv] at h1
  rw [hsc] at h2
  exact ⟨h0, h1, h2, ha0, ha1, ha2⟩

end Cert.Hand

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Run
public import proofs.«01_k».proof.Proof.Origin.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: each program runs and leaves its arguments as they were, and the kernel's results are the reference's. -/
theorem claim : Cert.Claim := ⟨Cert.Kernel.Gen.facts, Cert.KernelIdeal.Gen.facts, Cert.ReferenceIdeal.Gen.facts, Cert.Pre_finite.Gen.facts,
  fun m ρ _ => Cert.Kernel.Hand.frame m ρ,
  fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  trivial, Cert.Hand.algebraic⟩

end Cert.Proof

end
